-- ==== Defs.lean ====
def Pre_Kernel [hPre_pi_is_0123_Kernel : Cert.Pre_pi_is_0123_Kernel.Facts] (m : (ℓ : Loc Cert.Kernel.nD Cert.Kernel.τ Cert.Kernel.sig) → Buf (Elt Bits) ℓ) : Prop :=
  ∀ c : Dev Cert.Kernel.nD,
    (Cert.Pre_pi_is_0123_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_0132_Kernel [hPre_pi_is_0132_Kernel : Cert.Pre_pi_is_0132_Kernel.Facts] (m : (ℓ : Loc Cert.Kernel.nD Cert.Kernel.τ Cert.Kernel.sig) → Buf (Elt Bits) ℓ) : Prop :=
  ∀ c : Dev Cert.Kernel.nD,
    (Cert.Pre_pi_is_0132_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_0213_Kernel [hPre_pi_is_0213_Kernel : Cert.Pre_pi_is_0213_Kernel.Facts] (m : (ℓ : Loc Cert.Kernel.nD Cert.Kernel.τ Cert.Kernel.sig) → Buf (Elt Bits) ℓ) : Prop :=
  ∀ c : Dev Cert.Kernel.nD,
    (Cert.Pre_pi_is_0213_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_0231_Kernel [hPre_pi_is_0231_Kernel : Cert.Pre_pi_is_0231_Kernel.Facts] (m : (ℓ : Loc Cert.Kernel.nD Cert.Kernel.τ Cert.Kernel.sig) → Buf (Elt Bits) ℓ) : Prop :=
  ∀ c : Dev Cert.Kernel.nD,
    (Cert.Pre_pi_is_0231_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_0312_Kernel [hPre_pi_is_0312_Kernel : Cert.Pre_pi_is_0312_Kernel.Facts] (m : (ℓ : Loc Cert.Kernel.nD Cert.Kernel.τ Cert.Kernel.sig) → Buf (Elt Bits) ℓ) : Prop :=
  ∀ c : Dev Cert.Kernel.nD,
    (Cert.Pre_pi_is_0312_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_0321_Kernel [hPre_pi_is_0321_Kernel : Cert.Pre_pi_is_0321_Kernel.Facts] (m : (ℓ : Loc Cert.Kernel.nD Cert.Kernel.τ Cert.Kernel.sig) → Buf (Elt Bits) ℓ) : Prop :=
  ∀ c : Dev Cert.Kernel.nD,
    (Cert.Pre_pi_is_0321_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_1023_Kernel [hPre_pi_is_1023_Kernel : Cert.Pre_pi_is_1023_Kernel.Facts] (m : (ℓ : Loc Cert.Kernel.nD Cert.Kernel.τ Cert.Kernel.sig) → Buf (Elt Bits) ℓ) : Prop :=
  ∀ c : Dev Cert.Kernel.nD,
    (Cert.Pre_pi_is_1023_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_1032_Kernel [hPre_pi_is_1032_Kernel : Cert.Pre_pi_is_1032_Kernel.Facts] (m : (ℓ : Loc Cert.Kernel.nD Cert.Kernel.τ Cert.Kernel.sig) → Buf (Elt Bits) ℓ) : Prop :=
  ∀ c : Dev Cert.Kernel.nD,
    (Cert.Pre_pi_is_1032_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_1203_Kernel [hPre_pi_is_1203_Kernel : Cert.Pre_pi_is_1203_Kernel.Facts] (m : (ℓ : Loc Cert.Kernel.nD Cert.Kernel.τ Cert.Kernel.sig) → Buf (Elt Bits) ℓ) : Prop :=
  ∀ c : Dev Cert.Kernel.nD,
    (Cert.Pre_pi_is_1203_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_1230_Kernel [hPre_pi_is_1230_Kernel : Cert.Pre_pi_is_1230_Kernel.Facts] (m : (ℓ : Loc Cert.Kernel.nD Cert.Kernel.τ Cert.Kernel.sig) → Buf (Elt Bits) ℓ) : Prop :=
  ∀ c : Dev Cert.Kernel.nD,
    (Cert.Pre_pi_is_1230_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_1302_Kernel [hPre_pi_is_1302_Kernel : Cert.Pre_pi_is_1302_Kernel.Facts] (m : (ℓ : Loc Cert.Kernel.nD Cert.Kernel.τ Cert.Kernel.sig) → Buf (Elt Bits) ℓ) : Prop :=
  ∀ c : Dev Cert.Kernel.nD,
    (Cert.Pre_pi_is_1302_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_1320_Kernel [hPre_pi_is_1320_Kernel : Cert.Pre_pi_is_1320_Kernel.Facts] (m : (ℓ : Loc Cert.Kernel.nD Cert.Kernel.τ Cert.Kernel.sig) → Buf (Elt Bits) ℓ) : Prop :=
  ∀ c : Dev Cert.Kernel.nD,
    (Cert.Pre_pi_is_1320_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_2013_Kernel [hPre_pi_is_2013_Kernel : Cert.Pre_pi_is_2013_Kernel.Facts] (m : (ℓ : Loc Cert.Kernel.nD Cert.Kernel.τ Cert.Kernel.sig) → Buf (Elt Bits) ℓ) : Prop :=
  ∀ c : Dev Cert.Kernel.nD,
    (Cert.Pre_pi_is_2013_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_2031_Kernel [hPre_pi_is_2031_Kernel : Cert.Pre_pi_is_2031_Kernel.Facts] (m : (ℓ : Loc Cert.Kernel.nD Cert.Kernel.τ Cert.Kernel.sig) → Buf (Elt Bits) ℓ) : Prop :=
  ∀ c : Dev Cert.Kernel.nD,
    (Cert.Pre_pi_is_2031_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_2103_Kernel [hPre_pi_is_2103_Kernel : Cert.Pre_pi_is_2103_Kernel.Facts] (m : (ℓ : Loc Cert.Kernel.nD Cert.Kernel.τ Cert.Kernel.sig) → Buf (Elt Bits) ℓ) : Prop :=
  ∀ c : Dev Cert.Kernel.nD,
    (Cert.Pre_pi_is_2103_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_2130_Kernel [hPre_pi_is_2130_Kernel : Cert.Pre_pi_is_2130_Kernel.Facts] (m : (ℓ : Loc Cert.Kernel.nD Cert.Kernel.τ Cert.Kernel.sig) → Buf (Elt Bits) ℓ) : Prop :=
  ∀ c : Dev Cert.Kernel.nD,
    (Cert.Pre_pi_is_2130_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_2301_Kernel [hPre_pi_is_2301_Kernel : Cert.Pre_pi_is_2301_Kernel.Facts] (m : (ℓ : Loc Cert.Kernel.nD Cert.Kernel.τ Cert.Kernel.sig) → Buf (Elt Bits) ℓ) : Prop :=
  ∀ c : Dev Cert.Kernel.nD,
    (Cert.Pre_pi_is_2301_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_2310_Kernel [hPre_pi_is_2310_Kernel : Cert.Pre_pi_is_2310_Kernel.Facts] (m : (ℓ : Loc Cert.Kernel.nD Cert.Kernel.τ Cert.Kernel.sig) → Buf (Elt Bits) ℓ) : Prop :=
  ∀ c : Dev Cert.Kernel.nD,
    (Cert.Pre_pi_is_2310_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_3012_Kernel [hPre_pi_is_3012_Kernel : Cert.Pre_pi_is_3012_Kernel.Facts] (m : (ℓ : Loc Cert.Kernel.nD Cert.Kernel.τ Cert.Kernel.sig) → Buf (Elt Bits) ℓ) : Prop :=
  ∀ c : Dev Cert.Kernel.nD,
    (Cert.Pre_pi_is_3012_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_3021_Kernel [hPre_pi_is_3021_Kernel : Cert.Pre_pi_is_3021_Kernel.Facts] (m : (ℓ : Loc Cert.Kernel.nD Cert.Kernel.τ Cert.Kernel.sig) → Buf (Elt Bits) ℓ) : Prop :=
  ∀ c : Dev Cert.Kernel.nD,
    (Cert.Pre_pi_is_3021_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_3102_Kernel [hPre_pi_is_3102_Kernel : Cert.Pre_pi_is_3102_Kernel.Facts] (m : (ℓ : Loc Cert.Kernel.nD Cert.Kernel.τ Cert.Kernel.sig) → Buf (Elt Bits) ℓ) : Prop :=
  ∀ c : Dev Cert.Kernel.nD,
    (Cert.Pre_pi_is_3102_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_3120_Kernel [hPre_pi_is_3120_Kernel : Cert.Pre_pi_is_3120_Kernel.Facts] (m : (ℓ : Loc Cert.Kernel.nD Cert.Kernel.τ Cert.Kernel.sig) → Buf (Elt Bits) ℓ) : Prop :=
  ∀ c : Dev Cert.Kernel.nD,
    (Cert.Pre_pi_is_3120_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_3201_Kernel [hPre_pi_is_3201_Kernel : Cert.Pre_pi_is_3201_Kernel.Facts] (m : (ℓ : Loc Cert.Kernel.nD Cert.Kernel.τ Cert.Kernel.sig) → Buf (Elt Bits) ℓ) : Prop :=
  ∀ c : Dev Cert.Kernel.nD,
    (Cert.Pre_pi_is_3201_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_3210_Kernel [hPre_pi_is_3210_Kernel : Cert.Pre_pi_is_3210_Kernel.Facts] (m : (ℓ : Loc Cert.Kernel.nD Cert.Kernel.τ Cert.Kernel.sig) → Buf (Elt Bits) ℓ) : Prop :=
  ∀ c : Dev Cert.Kernel.nD,
    (Cert.Pre_pi_is_3210_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_pi_is_0123_Kernel : Cert.Pre_pi_is_0123_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_0123_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_0132_Kernel [hPre_pi_is_0132_Kernel : Cert.Pre_pi_is_0132_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_0132_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_0213_Kernel [hPre_pi_is_0213_Kernel : Cert.Pre_pi_is_0213_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_0213_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_0231_Kernel [hPre_pi_is_0231_Kernel : Cert.Pre_pi_is_0231_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_0231_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_0312_Kernel [hPre_pi_is_0312_Kernel : Cert.Pre_pi_is_0312_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_0312_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_0321_Kernel [hPre_pi_is_0321_Kernel : Cert.Pre_pi_is_0321_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_0321_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_1023_Kernel [hPre_pi_is_1023_Kernel : Cert.Pre_pi_is_1023_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_1023_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_1032_Kernel [hPre_pi_is_1032_Kernel : Cert.Pre_pi_is_1032_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_1032_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_1203_Kernel [hPre_pi_is_1203_Kernel : Cert.Pre_pi_is_1203_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_1203_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_1230_Kernel [hPre_pi_is_1230_Kernel : Cert.Pre_pi_is_1230_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_1230_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_1302_Kernel [hPre_pi_is_1302_Kernel : Cert.Pre_pi_is_1302_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_1302_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_1320_Kernel [hPre_pi_is_1320_Kernel : Cert.Pre_pi_is_1320_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_1320_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_2013_Kernel [hPre_pi_is_2013_Kernel : Cert.Pre_pi_is_2013_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_2013_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_2031_Kernel [hPre_pi_is_2031_Kernel : Cert.Pre_pi_is_2031_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_2031_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_2103_Kernel [hPre_pi_is_2103_Kernel : Cert.Pre_pi_is_2103_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_2103_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_2130_Kernel [hPre_pi_is_2130_Kernel : Cert.Pre_pi_is_2130_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_2130_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_2301_Kernel [hPre_pi_is_2301_Kernel : Cert.Pre_pi_is_2301_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_2301_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_2310_Kernel [hPre_pi_is_2310_Kernel : Cert.Pre_pi_is_2310_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_2310_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_3012_Kernel [hPre_pi_is_3012_Kernel : Cert.Pre_pi_is_3012_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_3012_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_3021_Kernel [hPre_pi_is_3021_Kernel : Cert.Pre_pi_is_3021_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_3021_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_3102_Kernel [hPre_pi_is_3102_Kernel : Cert.Pre_pi_is_3102_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_3102_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_3120_Kernel [hPre_pi_is_3120_Kernel : Cert.Pre_pi_is_3120_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_3120_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_3201_Kernel [hPre_pi_is_3201_Kernel : Cert.Pre_pi_is_3201_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_3201_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_3210_Kernel [hPre_pi_is_3210_Kernel : Cert.Pre_pi_is_3210_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_3210_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pi_is_0123_ReferenceIdeal [hPre_pi_is_0123_ReferenceIdeal : Cert.Pre_pi_is_0123_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_0123_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_0132_ReferenceIdeal [hPre_pi_is_0132_ReferenceIdeal : Cert.Pre_pi_is_0132_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_0132_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_0213_ReferenceIdeal [hPre_pi_is_0213_ReferenceIdeal : Cert.Pre_pi_is_0213_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_0213_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_0231_ReferenceIdeal [hPre_pi_is_0231_ReferenceIdeal : Cert.Pre_pi_is_0231_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_0231_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_0312_ReferenceIdeal [hPre_pi_is_0312_ReferenceIdeal : Cert.Pre_pi_is_0312_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_0312_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_0321_ReferenceIdeal [hPre_pi_is_0321_ReferenceIdeal : Cert.Pre_pi_is_0321_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_0321_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_1023_ReferenceIdeal [hPre_pi_is_1023_ReferenceIdeal : Cert.Pre_pi_is_1023_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_1023_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_1032_ReferenceIdeal [hPre_pi_is_1032_ReferenceIdeal : Cert.Pre_pi_is_1032_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_1032_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_1203_ReferenceIdeal [hPre_pi_is_1203_ReferenceIdeal : Cert.Pre_pi_is_1203_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_1203_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_1230_ReferenceIdeal [hPre_pi_is_1230_ReferenceIdeal : Cert.Pre_pi_is_1230_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_1230_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_1302_ReferenceIdeal [hPre_pi_is_1302_ReferenceIdeal : Cert.Pre_pi_is_1302_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_1302_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_1320_ReferenceIdeal [hPre_pi_is_1320_ReferenceIdeal : Cert.Pre_pi_is_1320_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_1320_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_2013_ReferenceIdeal [hPre_pi_is_2013_ReferenceIdeal : Cert.Pre_pi_is_2013_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_2013_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_2031_ReferenceIdeal [hPre_pi_is_2031_ReferenceIdeal : Cert.Pre_pi_is_2031_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_2031_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_2103_ReferenceIdeal [hPre_pi_is_2103_ReferenceIdeal : Cert.Pre_pi_is_2103_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_2103_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_2130_ReferenceIdeal [hPre_pi_is_2130_ReferenceIdeal : Cert.Pre_pi_is_2130_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_2130_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_2301_ReferenceIdeal [hPre_pi_is_2301_ReferenceIdeal : Cert.Pre_pi_is_2301_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_2301_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_2310_ReferenceIdeal [hPre_pi_is_2310_ReferenceIdeal : Cert.Pre_pi_is_2310_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_2310_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_3012_ReferenceIdeal [hPre_pi_is_3012_ReferenceIdeal : Cert.Pre_pi_is_3012_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_3012_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_3021_ReferenceIdeal [hPre_pi_is_3021_ReferenceIdeal : Cert.Pre_pi_is_3021_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_3021_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_3102_ReferenceIdeal [hPre_pi_is_3102_ReferenceIdeal : Cert.Pre_pi_is_3102_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_3102_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_3120_ReferenceIdeal [hPre_pi_is_3120_ReferenceIdeal : Cert.Pre_pi_is_3120_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_3120_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_3201_ReferenceIdeal [hPre_pi_is_3201_ReferenceIdeal : Cert.Pre_pi_is_3201_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_3201_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_3210_ReferenceIdeal [hPre_pi_is_3210_ReferenceIdeal : Cert.Pre_pi_is_3210_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_3210_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_pi_is_0123_Kernel : Cert.Pre_pi_is_0123_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_0132_Kernel [hKernel : Cert.Kernel.Facts] [hPre_pi_is_0132_Kernel : Cert.Pre_pi_is_0132_Kernel.Facts] : Prop :=
  ∀ (m : (ℓ : Loc Cert.Kernel.nD Cert.Kernel.τ Cert.Kernel.sig) → Buf (Elt Bits) ℓ) (g : Dev Cert.Kernel.nD → PrngReg), Pre_Kernel_pi_is_0132_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_0213_Kernel [hKernel : Cert.Kernel.Facts] [hPre_pi_is_0213_Kernel : Cert.Pre_pi_is_0213_Kernel.Facts] : Prop :=
  ∀ (m : (ℓ : Loc Cert.Kernel.nD Cert.Kernel.τ Cert.Kernel.sig) → Buf (Elt Bits) ℓ) (g : Dev Cert.Kernel.nD → PrngReg), Pre_Kernel_pi_is_0213_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_0231_Kernel [hKernel : Cert.Kernel.Facts] [hPre_pi_is_0231_Kernel : Cert.Pre_pi_is_0231_Kernel.Facts] : Prop :=
  ∀ (m : (ℓ : Loc Cert.Kernel.nD Cert.Kernel.τ Cert.Kernel.sig) → Buf (Elt Bits) ℓ) (g : Dev Cert.Kernel.nD → PrngReg), Pre_Kernel_pi_is_0231_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_0312_Kernel [hKernel : Cert.Kernel.Facts] [hPre_pi_is_0312_Kernel : Cert.Pre_pi_is_0312_Kernel.Facts] : Prop :=
  ∀ (m : (ℓ : Loc Cert.Kernel.nD Cert.Kernel.τ Cert.Kernel.sig) → Buf (Elt Bits) ℓ) (g : Dev Cert.Kernel.nD → PrngReg), Pre_Kernel_pi_is_0312_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_0321_Kernel [hKernel : Cert.Kernel.Facts] [hPre_pi_is_0321_Kernel : Cert.Pre_pi_is_0321_Kernel.Facts] : Prop :=
  ∀ (m : (ℓ : Loc Cert.Kernel.nD Cert.Kernel.τ Cert.Kernel.sig) → Buf (Elt Bits) ℓ) (g : Dev Cert.Kernel.nD → PrngReg), Pre_Kernel_pi_is_0321_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_1023_Kernel [hKernel : Cert.Kernel.Facts] [hPre_pi_is_1023_Kernel : Cert.Pre_pi_is_1023_Kernel.Facts] : Prop :=
  ∀ (m : (ℓ : Loc Cert.Kernel.nD Cert.Kernel.τ Cert.Kernel.sig) → Buf (Elt Bits) ℓ) (g : Dev Cert.Kernel.nD → PrngReg), Pre_Kernel_pi_is_1023_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_1032_Kernel [hKernel : Cert.Kernel.Facts] [hPre_pi_is_1032_Kernel : Cert.Pre_pi_is_1032_Kernel.Facts] : Prop :=
  ∀ (m : (ℓ : Loc Cert.Kernel.nD Cert.Kernel.τ Cert.Kernel.sig) → Buf (Elt Bits) ℓ) (g : Dev Cert.Kernel.nD → PrngReg), Pre_Kernel_pi_is_1032_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_1203_Kernel [hKernel : Cert.Kernel.Facts] [hPre_pi_is_1203_Kernel : Cert.Pre_pi_is_1203_Kernel.Facts] : Prop :=
  ∀ (m : (ℓ : Loc Cert.Kernel.nD Cert.Kernel.τ Cert.Kernel.sig) → Buf (Elt Bits) ℓ) (g : Dev Cert.Kernel.nD → PrngReg), Pre_Kernel_pi_is_1203_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_1230_Kernel [hKernel : Cert.Kernel.Facts] [hPre_pi_is_1230_Kernel : Cert.Pre_pi_is_1230_Kernel.Facts] : Prop :=
  ∀ (m : (ℓ : Loc Cert.Kernel.nD Cert.Kernel.τ Cert.Kernel.sig) → Buf (Elt Bits) ℓ) (g : Dev Cert.Kernel.nD → PrngReg), Pre_Kernel_pi_is_1230_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_1302_Kernel [hKernel : Cert.Kernel.Facts] [hPre_pi_is_1302_Kernel : Cert.Pre_pi_is_1302_Kernel.Facts] : Prop :=
  ∀ (m : (ℓ : Loc Cert.Kernel.nD Cert.Kernel.τ Cert.Kernel.sig) → Buf (Elt Bits) ℓ) (g : Dev Cert.Kernel.nD → PrngReg), Pre_Kernel_pi_is_1302_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_1320_Kernel [hKernel : Cert.Kernel.Facts] [hPre_pi_is_1320_Kernel : Cert.Pre_pi_is_1320_Kernel.Facts] : Prop :=
  ∀ (m : (ℓ : Loc Cert.Kernel.nD Cert.Kernel.τ Cert.Kernel.sig) → Buf (Elt Bits) ℓ) (g : Dev Cert.Kernel.nD → PrngReg), Pre_Kernel_pi_is_1320_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_2013_Kernel [hKernel : Cert.Kernel.Facts] [hPre_pi_is_2013_Kernel : Cert.Pre_pi_is_2013_Kernel.Facts] : Prop :=
  ∀ (m : (ℓ : Loc Cert.Kernel.nD Cert.Kernel.τ Cert.Kernel.sig) → Buf (Elt Bits) ℓ) (g : Dev Cert.Kernel.nD → PrngReg), Pre_Kernel_pi_is_2013_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_2031_Kernel [hKernel : Cert.Kernel.Facts] [hPre_pi_is_2031_Kernel : Cert.Pre_pi_is_2031_Kernel.Facts] : Prop :=
  ∀ (m : (ℓ : Loc Cert.Kernel.nD Cert.Kernel.τ Cert.Kernel.sig) → Buf (Elt Bits) ℓ) (g : Dev Cert.Kernel.nD → PrngReg), Pre_Kernel_pi_is_2031_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_2103_Kernel [hKernel : Cert.Kernel.Facts] [hPre_pi_is_2103_Kernel : Cert.Pre_pi_is_2103_Kernel.Facts] : Prop :=
  ∀ (m : (ℓ : Loc Cert.Kernel.nD Cert.Kernel.τ Cert.Kernel.sig) → Buf (Elt Bits) ℓ) (g : Dev Cert.Kernel.nD → PrngReg), Pre_Kernel_pi_is_2103_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_2130_Kernel [hKernel : Cert.Kernel.Facts] [hPre_pi_is_2130_Kernel : Cert.Pre_pi_is_2130_Kernel.Facts] : Prop :=
  ∀ (m : (ℓ : Loc Cert.Kernel.nD Cert.Kernel.τ Cert.Kernel.sig) → Buf (Elt Bits) ℓ) (g : Dev Cert.Kernel.nD → PrngReg), Pre_Kernel_pi_is_2130_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_2301_Kernel [hKernel : Cert.Kernel.Facts] [hPre_pi_is_2301_Kernel : Cert.Pre_pi_is_2301_Kernel.Facts] : Prop :=
  ∀ (m : (ℓ : Loc Cert.Kernel.nD Cert.Kernel.τ Cert.Kernel.sig) → Buf (Elt Bits) ℓ) (g : Dev Cert.Kernel.nD → PrngReg), Pre_Kernel_pi_is_2301_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_2310_Kernel [hKernel : Cert.Kernel.Facts] [hPre_pi_is_2310_Kernel : Cert.Pre_pi_is_2310_Kernel.Facts] : Prop :=
  ∀ (m : (ℓ : Loc Cert.Kernel.nD Cert.Kernel.τ Cert.Kernel.sig) → Buf (Elt Bits) ℓ) (g : Dev Cert.Kernel.nD → PrngReg), Pre_Kernel_pi_is_2310_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_3012_Kernel [hKernel : Cert.Kernel.Facts] [hPre_pi_is_3012_Kernel : Cert.Pre_pi_is_3012_Kernel.Facts] : Prop :=
  ∀ (m : (ℓ : Loc Cert.Kernel.nD Cert.Kernel.τ Cert.Kernel.sig) → Buf (Elt Bits) ℓ) (g : Dev Cert.Kernel.nD → PrngReg), Pre_Kernel_pi_is_3012_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_3021_Kernel [hKernel : Cert.Kernel.Facts] [hPre_pi_is_3021_Kernel : Cert.Pre_pi_is_3021_Kernel.Facts] : Prop :=
  ∀ (m : (ℓ : Loc Cert.Kernel.nD Cert.Kernel.τ Cert.Kernel.sig) → Buf (Elt Bits) ℓ) (g : Dev Cert.Kernel.nD → PrngReg), Pre_Kernel_pi_is_3021_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_3102_Kernel [hKernel : Cert.Kernel.Facts] [hPre_pi_is_3102_Kernel : Cert.Pre_pi_is_3102_Kernel.Facts] : Prop :=
  ∀ (m : (ℓ : Loc Cert.Kernel.nD Cert.Kernel.τ Cert.Kernel.sig) → Buf (Elt Bits) ℓ) (g : Dev Cert.Kernel.nD → PrngReg), Pre_Kernel_pi_is_3102_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_3120_Kernel [hKernel : Cert.Kernel.Facts] [hPre_pi_is_3120_Kernel : Cert.Pre_pi_is_3120_Kernel.Facts] : Prop :=
  ∀ (m : (ℓ : Loc Cert.Kernel.nD Cert.Kernel.τ Cert.Kernel.sig) → Buf (Elt Bits) ℓ) (g : Dev Cert.Kernel.nD → PrngReg), Pre_Kernel_pi_is_3120_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_3201_Kernel [hKernel : Cert.Kernel.Facts] [hPre_pi_is_3201_Kernel : Cert.Pre_pi_is_3201_Kernel.Facts] : Prop :=
  ∀ (m : (ℓ : Loc Cert.Kernel.nD Cert.Kernel.τ Cert.Kernel.sig) → Buf (Elt Bits) ℓ) (g : Dev Cert.Kernel.nD → PrngReg), Pre_Kernel_pi_is_3201_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_3210_Kernel [hKernel : Cert.Kernel.Facts] [hPre_pi_is_3210_Kernel : Cert.Pre_pi_is_3210_Kernel.Facts] : Prop :=
  ∀ (m : (ℓ : Loc Cert.Kernel.nD Cert.Kernel.τ Cert.Kernel.sig) → Buf (Elt Bits) ℓ) (g : Dev Cert.Kernel.nD → PrngReg), Pre_Kernel_pi_is_3210_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_pi_is_0123_Kernel : Cert.Pre_pi_is_0123_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_0132_Kernel [hKernelIdeal : Cert.KernelIdeal.Facts] [hPre_pi_is_0132_Kernel : Cert.Pre_pi_is_0132_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_0132_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_0213_Kernel [hKernelIdeal : Cert.KernelIdeal.Facts] [hPre_pi_is_0213_Kernel : Cert.Pre_pi_is_0213_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_0213_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_0231_Kernel [hKernelIdeal : Cert.KernelIdeal.Facts] [hPre_pi_is_0231_Kernel : Cert.Pre_pi_is_0231_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_0231_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_0312_Kernel [hKernelIdeal : Cert.KernelIdeal.Facts] [hPre_pi_is_0312_Kernel : Cert.Pre_pi_is_0312_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_0312_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_0321_Kernel [hKernelIdeal : Cert.KernelIdeal.Facts] [hPre_pi_is_0321_Kernel : Cert.Pre_pi_is_0321_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_0321_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_1023_Kernel [hKernelIdeal : Cert.KernelIdeal.Facts] [hPre_pi_is_1023_Kernel : Cert.Pre_pi_is_1023_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_1023_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_1032_Kernel [hKernelIdeal : Cert.KernelIdeal.Facts] [hPre_pi_is_1032_Kernel : Cert.Pre_pi_is_1032_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_1032_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_1203_Kernel [hKernelIdeal : Cert.KernelIdeal.Facts] [hPre_pi_is_1203_Kernel : Cert.Pre_pi_is_1203_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_1203_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_1230_Kernel [hKernelIdeal : Cert.KernelIdeal.Facts] [hPre_pi_is_1230_Kernel : Cert.Pre_pi_is_1230_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_1230_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_1302_Kernel [hKernelIdeal : Cert.KernelIdeal.Facts] [hPre_pi_is_1302_Kernel : Cert.Pre_pi_is_1302_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_1302_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_1320_Kernel [hKernelIdeal : Cert.KernelIdeal.Facts] [hPre_pi_is_1320_Kernel : Cert.Pre_pi_is_1320_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_1320_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_2013_Kernel [hKernelIdeal : Cert.KernelIdeal.Facts] [hPre_pi_is_2013_Kernel : Cert.Pre_pi_is_2013_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_2013_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_2031_Kernel [hKernelIdeal : Cert.KernelIdeal.Facts] [hPre_pi_is_2031_Kernel : Cert.Pre_pi_is_2031_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_2031_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_2103_Kernel [hKernelIdeal : Cert.KernelIdeal.Facts] [hPre_pi_is_2103_Kernel : Cert.Pre_pi_is_2103_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_2103_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_2130_Kernel [hKernelIdeal : Cert.KernelIdeal.Facts] [hPre_pi_is_2130_Kernel : Cert.Pre_pi_is_2130_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_2130_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_2301_Kernel [hKernelIdeal : Cert.KernelIdeal.Facts] [hPre_pi_is_2301_Kernel : Cert.Pre_pi_is_2301_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_2301_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_2310_Kernel [hKernelIdeal : Cert.KernelIdeal.Facts] [hPre_pi_is_2310_Kernel : Cert.Pre_pi_is_2310_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_2310_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_3012_Kernel [hKernelIdeal : Cert.KernelIdeal.Facts] [hPre_pi_is_3012_Kernel : Cert.Pre_pi_is_3012_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_3012_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_3021_Kernel [hKernelIdeal : Cert.KernelIdeal.Facts] [hPre_pi_is_3021_Kernel : Cert.Pre_pi_is_3021_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_3021_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_3102_Kernel [hKernelIdeal : Cert.KernelIdeal.Facts] [hPre_pi_is_3102_Kernel : Cert.Pre_pi_is_3102_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_3102_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_3120_Kernel [hKernelIdeal : Cert.KernelIdeal.Facts] [hPre_pi_is_3120_Kernel : Cert.Pre_pi_is_3120_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_3120_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_3201_Kernel [hKernelIdeal : Cert.KernelIdeal.Facts] [hPre_pi_is_3201_Kernel : Cert.Pre_pi_is_3201_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_3201_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_3210_Kernel [hKernelIdeal : Cert.KernelIdeal.Facts] [hPre_pi_is_3210_Kernel : Cert.Pre_pi_is_3210_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_3210_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_0123_ReferenceIdeal [hReferenceIdeal : Cert.ReferenceIdeal.Facts] [hPre_pi_is_0123_ReferenceIdeal : Cert.Pre_pi_is_0123_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_0123_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_0132_ReferenceIdeal [hReferenceIdeal : Cert.ReferenceIdeal.Facts] [hPre_pi_is_0132_ReferenceIdeal : Cert.Pre_pi_is_0132_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_0132_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_0213_ReferenceIdeal [hReferenceIdeal : Cert.ReferenceIdeal.Facts] [hPre_pi_is_0213_ReferenceIdeal : Cert.Pre_pi_is_0213_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_0213_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_0231_ReferenceIdeal [hReferenceIdeal : Cert.ReferenceIdeal.Facts] [hPre_pi_is_0231_ReferenceIdeal : Cert.Pre_pi_is_0231_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_0231_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_0312_ReferenceIdeal [hReferenceIdeal : Cert.ReferenceIdeal.Facts] [hPre_pi_is_0312_ReferenceIdeal : Cert.Pre_pi_is_0312_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_0312_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_0321_ReferenceIdeal [hReferenceIdeal : Cert.ReferenceIdeal.Facts] [hPre_pi_is_0321_ReferenceIdeal : Cert.Pre_pi_is_0321_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_0321_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_1023_ReferenceIdeal [hReferenceIdeal : Cert.ReferenceIdeal.Facts] [hPre_pi_is_1023_ReferenceIdeal : Cert.Pre_pi_is_1023_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_1023_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_1032_ReferenceIdeal [hReferenceIdeal : Cert.ReferenceIdeal.Facts] [hPre_pi_is_1032_ReferenceIdeal : Cert.Pre_pi_is_1032_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_1032_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_1203_ReferenceIdeal [hReferenceIdeal : Cert.ReferenceIdeal.Facts] [hPre_pi_is_1203_ReferenceIdeal : Cert.Pre_pi_is_1203_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_1203_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_1230_ReferenceIdeal [hReferenceIdeal : Cert.ReferenceIdeal.Facts] [hPre_pi_is_1230_ReferenceIdeal : Cert.Pre_pi_is_1230_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_1230_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_1302_ReferenceIdeal [hReferenceIdeal : Cert.ReferenceIdeal.Facts] [hPre_pi_is_1302_ReferenceIdeal : Cert.Pre_pi_is_1302_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_1302_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_1320_ReferenceIdeal [hReferenceIdeal : Cert.ReferenceIdeal.Facts] [hPre_pi_is_1320_ReferenceIdeal : Cert.Pre_pi_is_1320_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_1320_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_2013_ReferenceIdeal [hReferenceIdeal : Cert.ReferenceIdeal.Facts] [hPre_pi_is_2013_ReferenceIdeal : Cert.Pre_pi_is_2013_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_2013_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_2031_ReferenceIdeal [hReferenceIdeal : Cert.ReferenceIdeal.Facts] [hPre_pi_is_2031_ReferenceIdeal : Cert.Pre_pi_is_2031_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_2031_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_2103_ReferenceIdeal [hReferenceIdeal : Cert.ReferenceIdeal.Facts] [hPre_pi_is_2103_ReferenceIdeal : Cert.Pre_pi_is_2103_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_2103_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_2130_ReferenceIdeal [hReferenceIdeal : Cert.ReferenceIdeal.Facts] [hPre_pi_is_2130_ReferenceIdeal : Cert.Pre_pi_is_2130_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_2130_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_2301_ReferenceIdeal [hReferenceIdeal : Cert.ReferenceIdeal.Facts] [hPre_pi_is_2301_ReferenceIdeal : Cert.Pre_pi_is_2301_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_2301_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_2310_ReferenceIdeal [hReferenceIdeal : Cert.ReferenceIdeal.Facts] [hPre_pi_is_2310_ReferenceIdeal : Cert.Pre_pi_is_2310_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_2310_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_3012_ReferenceIdeal [hReferenceIdeal : Cert.ReferenceIdeal.Facts] [hPre_pi_is_3012_ReferenceIdeal : Cert.Pre_pi_is_3012_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_3012_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_3021_ReferenceIdeal [hReferenceIdeal : Cert.ReferenceIdeal.Facts] [hPre_pi_is_3021_ReferenceIdeal : Cert.Pre_pi_is_3021_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_3021_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_3102_ReferenceIdeal [hReferenceIdeal : Cert.ReferenceIdeal.Facts] [hPre_pi_is_3102_ReferenceIdeal : Cert.Pre_pi_is_3102_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_3102_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_3120_ReferenceIdeal [hReferenceIdeal : Cert.ReferenceIdeal.Facts] [hPre_pi_is_3120_ReferenceIdeal : Cert.Pre_pi_is_3120_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_3120_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_3201_ReferenceIdeal [hReferenceIdeal : Cert.ReferenceIdeal.Facts] [hPre_pi_is_3201_ReferenceIdeal : Cert.Pre_pi_is_3201_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_3201_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_3210_ReferenceIdeal [hReferenceIdeal : Cert.ReferenceIdeal.Facts] [hPre_pi_is_3210_ReferenceIdeal : Cert.Pre_pi_is_3210_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_3210_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_pi_is_0123_Kernel : Cert.Pre_pi_is_0123_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_0132_Kernel [hKernelIdeal : Cert.KernelIdeal.Facts] [hReferenceIdeal : Cert.ReferenceIdeal.Facts] [hPre_pi_is_0132_Kernel : Cert.Pre_pi_is_0132_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_0132_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_0213_Kernel [hKernelIdeal : Cert.KernelIdeal.Facts] [hReferenceIdeal : Cert.ReferenceIdeal.Facts] [hPre_pi_is_0213_Kernel : Cert.Pre_pi_is_0213_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_0213_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_0231_Kernel [hKernelIdeal : Cert.KernelIdeal.Facts] [hReferenceIdeal : Cert.ReferenceIdeal.Facts] [hPre_pi_is_0231_Kernel : Cert.Pre_pi_is_0231_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_0231_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_0312_Kernel [hKernelIdeal : Cert.KernelIdeal.Facts] [hReferenceIdeal : Cert.ReferenceIdeal.Facts] [hPre_pi_is_0312_Kernel : Cert.Pre_pi_is_0312_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_0312_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_0321_Kernel [hKernelIdeal : Cert.KernelIdeal.Facts] [hReferenceIdeal : Cert.ReferenceIdeal.Facts] [hPre_pi_is_0321_Kernel : Cert.Pre_pi_is_0321_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_0321_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_1023_Kernel [hKernelIdeal : Cert.KernelIdeal.Facts] [hReferenceIdeal : Cert.ReferenceIdeal.Facts] [hPre_pi_is_1023_Kernel : Cert.Pre_pi_is_1023_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_1023_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_1032_Kernel [hKernelIdeal : Cert.KernelIdeal.Facts] [hReferenceIdeal : Cert.ReferenceIdeal.Facts] [hPre_pi_is_1032_Kernel : Cert.Pre_pi_is_1032_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_1032_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_1203_Kernel [hKernelIdeal : Cert.KernelIdeal.Facts] [hReferenceIdeal : Cert.ReferenceIdeal.Facts] [hPre_pi_is_1203_Kernel : Cert.Pre_pi_is_1203_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_1203_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_1230_Kernel [hKernelIdeal : Cert.KernelIdeal.Facts] [hReferenceIdeal : Cert.ReferenceIdeal.Facts] [hPre_pi_is_1230_Kernel : Cert.Pre_pi_is_1230_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_1230_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_1302_Kernel [hKernelIdeal : Cert.KernelIdeal.Facts] [hReferenceIdeal : Cert.ReferenceIdeal.Facts] [hPre_pi_is_1302_Kernel : Cert.Pre_pi_is_1302_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_1302_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_1320_Kernel [hKernelIdeal : Cert.KernelIdeal.Facts] [hReferenceIdeal : Cert.ReferenceIdeal.Facts] [hPre_pi_is_1320_Kernel : Cert.Pre_pi_is_1320_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_1320_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_2013_Kernel [hKernelIdeal : Cert.KernelIdeal.Facts] [hReferenceIdeal : Cert.ReferenceIdeal.Facts] [hPre_pi_is_2013_Kernel : Cert.Pre_pi_is_2013_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_2013_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_2031_Kernel [hKernelIdeal : Cert.KernelIdeal.Facts] [hReferenceIdeal : Cert.ReferenceIdeal.Facts] [hPre_pi_is_2031_Kernel : Cert.Pre_pi_is_2031_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_2031_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_2103_Kernel [hKernelIdeal : Cert.KernelIdeal.Facts] [hReferenceIdeal : Cert.ReferenceIdeal.Facts] [hPre_pi_is_2103_Kernel : Cert.Pre_pi_is_2103_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_2103_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_2130_Kernel [hKernelIdeal : Cert.KernelIdeal.Facts] [hReferenceIdeal : Cert.ReferenceIdeal.Facts] [hPre_pi_is_2130_Kernel : Cert.Pre_pi_is_2130_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_2130_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_2301_Kernel [hKernelIdeal : Cert.KernelIdeal.Facts] [hReferenceIdeal : Cert.ReferenceIdeal.Facts] [hPre_pi_is_2301_Kernel : Cert.Pre_pi_is_2301_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_2301_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_2310_Kernel [hKernelIdeal : Cert.KernelIdeal.Facts] [hReferenceIdeal : Cert.ReferenceIdeal.Facts] [hPre_pi_is_2310_Kernel : Cert.Pre_pi_is_2310_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_2310_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_3012_Kernel [hKernelIdeal : Cert.KernelIdeal.Facts] [hReferenceIdeal : Cert.ReferenceIdeal.Facts] [hPre_pi_is_3012_Kernel : Cert.Pre_pi_is_3012_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_3012_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_3021_Kernel [hKernelIdeal : Cert.KernelIdeal.Facts] [hReferenceIdeal : Cert.ReferenceIdeal.Facts] [hPre_pi_is_3021_Kernel : Cert.Pre_pi_is_3021_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_3021_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_3102_Kernel [hKernelIdeal : Cert.KernelIdeal.Facts] [hReferenceIdeal : Cert.ReferenceIdeal.Facts] [hPre_pi_is_3102_Kernel : Cert.Pre_pi_is_3102_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_3102_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_3120_Kernel [hKernelIdeal : Cert.KernelIdeal.Facts] [hReferenceIdeal : Cert.ReferenceIdeal.Facts] [hPre_pi_is_3120_Kernel : Cert.Pre_pi_is_3120_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_3120_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_3201_Kernel [hKernelIdeal : Cert.KernelIdeal.Facts] [hReferenceIdeal : Cert.ReferenceIdeal.Facts] [hPre_pi_is_3201_Kernel : Cert.Pre_pi_is_3201_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_3201_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_3210_Kernel [hKernelIdeal : Cert.KernelIdeal.Facts] [hReferenceIdeal : Cert.ReferenceIdeal.Facts] [hPre_pi_is_3210_Kernel : Cert.Pre_pi_is_3210_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_3210_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_pi_is_0123_Kernel : Cert.Pre_pi_is_0123_Kernel.Facts) (hPre_pi_is_0132_Kernel : Cert.Pre_pi_is_0132_Kernel.Facts) (hPre_pi_is_0213_Kernel : Cert.Pre_pi_is_0213_Kernel.Facts) (hPre_pi_is_0231_Kernel : Cert.Pre_pi_is_0231_Kernel.Facts) (hPre_pi_is_0312_Kernel : Cert.Pre_pi_is_0312_Kernel.Facts) (hPre_pi_is_0321_Kernel : Cert.Pre_pi_is_0321_Kernel.Facts) (hPre_pi_is_1023_Kernel : Cert.Pre_pi_is_1023_Kernel.Facts) (hPre_pi_is_1032_Kernel : Cert.Pre_pi_is_1032_Kernel.Facts) (hPre_pi_is_1203_Kernel : Cert.Pre_pi_is_1203_Kernel.Facts) (hPre_pi_is_1230_Kernel : Cert.Pre_pi_is_1230_Kernel.Facts) (hPre_pi_is_1302_Kernel : Cert.Pre_pi_is_1302_Kernel.Facts) (hPre_pi_is_1320_Kernel : Cert.Pre_pi_is_1320_Kernel.Facts) (hPre_pi_is_2013_Kernel : Cert.Pre_pi_is_2013_Kernel.Facts) (hPre_pi_is_2031_Kernel : Cert.Pre_pi_is_2031_Kernel.Facts) (hPre_pi_is_2103_Kernel : Cert.Pre_pi_is_2103_Kernel.Facts) (hPre_pi_is_2130_Kernel : Cert.Pre_pi_is_2130_Kernel.Facts) (hPre_pi_is_2301_Kernel : Cert.Pre_pi_is_2301_Kernel.Facts) (hPre_pi_is_2310_Kernel : Cert.Pre_pi_is_2310_Kernel.Facts) (hPre_pi_is_3012_Kernel : Cert.Pre_pi_is_3012_Kernel.Facts) (hPre_pi_is_3021_Kernel : Cert.Pre_pi_is_3021_Kernel.Facts) (hPre_pi_is_3102_Kernel : Cert.Pre_pi_is_3102_Kernel.Facts) (hPre_pi_is_3120_Kernel : Cert.Pre_pi_is_3120_Kernel.Facts) (hPre_pi_is_3201_Kernel : Cert.Pre_pi_is_3201_Kernel.Facts) (hPre_pi_is_3210_Kernel : Cert.Pre_pi_is_3210_Kernel.Facts) (hPre_pi_is_0123_ReferenceIdeal : Cert.Pre_pi_is_0123_ReferenceIdeal.Facts) (hPre_pi_is_0132_ReferenceIdeal : Cert.Pre_pi_is_0132_ReferenceIdeal.Facts) (hPre_pi_is_0213_ReferenceIdeal : Cert.Pre_pi_is_0213_ReferenceIdeal.Facts) (hPre_pi_is_0231_ReferenceIdeal : Cert.Pre_pi_is_0231_ReferenceIdeal.Facts) (hPre_pi_is_0312_ReferenceIdeal : Cert.Pre_pi_is_0312_ReferenceIdeal.Facts) (hPre_pi_is_0321_ReferenceIdeal : Cert.Pre_pi_is_0321_ReferenceIdeal.Facts) (hPre_pi_is_1023_ReferenceIdeal : Cert.Pre_pi_is_1023_ReferenceIdeal.Facts) (hPre_pi_is_1032_ReferenceIdeal : Cert.Pre_pi_is_1032_ReferenceIdeal.Facts) (hPre_pi_is_1203_ReferenceIdeal : Cert.Pre_pi_is_1203_ReferenceIdeal.Facts) (hPre_pi_is_1230_ReferenceIdeal : Cert.Pre_pi_is_1230_ReferenceIdeal.Facts) (hPre_pi_is_1302_ReferenceIdeal : Cert.Pre_pi_is_1302_ReferenceIdeal.Facts) (hPre_pi_is_1320_ReferenceIdeal : Cert.Pre_pi_is_1320_ReferenceIdeal.Facts) (hPre_pi_is_2013_ReferenceIdeal : Cert.Pre_pi_is_2013_ReferenceIdeal.Facts) (hPre_pi_is_2031_ReferenceIdeal : Cert.Pre_pi_is_2031_ReferenceIdeal.Facts) (hPre_pi_is_2103_ReferenceIdeal : Cert.Pre_pi_is_2103_ReferenceIdeal.Facts) (hPre_pi_is_2130_ReferenceIdeal : Cert.Pre_pi_is_2130_ReferenceIdeal.Facts) (hPre_pi_is_2301_ReferenceIdeal : Cert.Pre_pi_is_2301_ReferenceIdeal.Facts) (hPre_pi_is_2310_ReferenceIdeal : Cert.Pre_pi_is_2310_ReferenceIdeal.Facts) (hPre_pi_is_3012_ReferenceIdeal : Cert.Pre_pi_is_3012_ReferenceIdeal.Facts) (hPre_pi_is_3021_ReferenceIdeal : Cert.Pre_pi_is_3021_ReferenceIdeal.Facts) (hPre_pi_is_3102_ReferenceIdeal : Cert.Pre_pi_is_3102_ReferenceIdeal.Facts) (hPre_pi_is_3120_ReferenceIdeal : Cert.Pre_pi_is_3120_ReferenceIdeal.Facts) (hPre_pi_is_3201_ReferenceIdeal : Cert.Pre_pi_is_3201_ReferenceIdeal.Facts) (hPre_pi_is_3210_ReferenceIdeal : Cert.Pre_pi_is_3210_ReferenceIdeal.Facts),
    quiescent_Kernel (hKernel := hKernel) (hPre_pi_is_0123_Kernel := hPre_pi_is_0123_Kernel)
    ∧ quiescent_Kernel_pre_pi_is_0132_Kernel (hKernel := hKernel) (hPre_pi_is_0132_Kernel := hPre_pi_is_0132_Kernel)
    ∧ quiescent_Kernel_pre_pi_is_0213_Kernel (hKernel := hKernel) (hPre_pi_is_0213_Kernel := hPre_pi_is_0213_Kernel)
    ∧ quiescent_Kernel_pre_pi_is_0231_Kernel (hKernel := hKernel) (hPre_pi_is_0231_Kernel := hPre_pi_is_0231_Kernel)
    ∧ quiescent_Kernel_pre_pi_is_0312_Kernel (hKernel := hKernel) (hPre_pi_is_0312_Kernel := hPre_pi_is_0312_Kernel)
    ∧ quiescent_Kernel_pre_pi_is_0321_Kernel (hKernel := hKernel) (hPre_pi_is_0321_Kernel := hPre_pi_is_0321_Kernel)
    ∧ quiescent_Kernel_pre_pi_is_1023_Kernel (hKernel := hKernel) (hPre_pi_is_1023_Kernel := hPre_pi_is_1023_Kernel)
    ∧ quiescent_Kernel_pre_pi_is_1032_Kernel (hKernel := hKernel) (hPre_pi_is_1032_Kernel := hPre_pi_is_1032_Kernel)
    ∧ quiescent_Kernel_pre_pi_is_1203_Kernel (hKernel := hKernel) (hPre_pi_is_1203_Kernel := hPre_pi_is_1203_Kernel)
    ∧ quiescent_Kernel_pre_pi_is_1230_Kernel (hKernel := hKernel) (hPre_pi_is_1230_Kernel := hPre_pi_is_1230_Kernel)
    ∧ quiescent_Kernel_pre_pi_is_1302_Kernel (hKernel := hKernel) (hPre_pi_is_1302_Kernel := hPre_pi_is_1302_Kernel)
    ∧ quiescent_Kernel_pre_pi_is_1320_Kernel (hKernel := hKernel) (hPre_pi_is_1320_Kernel := hPre_pi_is_1320_Kernel)
    ∧ quiescent_Kernel_pre_pi_is_2013_Kernel (hKernel := hKernel) (hPre_pi_is_2013_Kernel := hPre_pi_is_2013_Kernel)
    ∧ quiescent_Kernel_pre_pi_is_2031_Kernel (hKernel := hKernel) (hPre_pi_is_2031_Kernel := hPre_pi_is_2031_Kernel)
    ∧ quiescent_Kernel_pre_pi_is_2103_Kernel (hKernel := hKernel) (hPre_pi_is_2103_Kernel := hPre_pi_is_2103_Kernel)
    ∧ quiescent_Kernel_pre_pi_is_2130_Kernel (hKernel := hKernel) (hPre_pi_is_2130_Kernel := hPre_pi_is_2130_Kernel)
    ∧ quiescent_Kernel_pre_pi_is_2301_Kernel (hKernel := hKernel) (hPre_pi_is_2301_Kernel := hPre_pi_is_2301_Kernel)
    ∧ quiescent_Kernel_pre_pi_is_2310_Kernel (hKernel := hKernel) (hPre_pi_is_2310_Kernel := hPre_pi_is_2310_Kernel)
    ∧ quiescent_Kernel_pre_pi_is_3012_Kernel (hKernel := hKernel) (hPre_pi_is_3012_Kernel := hPre_pi_is_3012_Kernel)
    ∧ quiescent_Kernel_pre_pi_is_3021_Kernel (hKernel := hKernel) (hPre_pi_is_3021_Kernel := hPre_pi_is_3021_Kernel)
    ∧ quiescent_Kernel_pre_pi_is_3102_Kernel (hKernel := hKernel) (hPre_pi_is_3102_Kernel := hPre_pi_is_3102_Kernel)
    ∧ quiescent_Kernel_pre_pi_is_3120_Kernel (hKernel := hKernel) (hPre_pi_is_3120_Kernel := hPre_pi_is_3120_Kernel)
    ∧ quiescent_Kernel_pre_pi_is_3201_Kernel (hKernel := hKernel) (hPre_pi_is_3201_Kernel := hPre_pi_is_3201_Kernel)
    ∧ quiescent_Kernel_pre_pi_is_3210_Kernel (hKernel := hKernel) (hPre_pi_is_3210_Kernel := hPre_pi_is_3210_Kernel)
    ∧ quiescent_KernelIdeal (hKernelIdeal := hKernelIdeal) (hPre_pi_is_0123_Kernel := hPre_pi_is_0123_Kernel)
    ∧ quiescent_KernelIdeal_pre_pi_is_0132_Kernel (hKernelIdeal := hKernelIdeal) (hPre_pi_is_0132_Kernel := hPre_pi_is_0132_Kernel)
    ∧ quiescent_KernelIdeal_pre_pi_is_0213_Kernel (hKernelIdeal := hKernelIdeal) (hPre_pi_is_0213_Kernel := hPre_pi_is_0213_Kernel)
    ∧ quiescent_KernelIdeal_pre_pi_is_0231_Kernel (hKernelIdeal := hKernelIdeal) (hPre_pi_is_0231_Kernel := hPre_pi_is_0231_Kernel)
    ∧ quiescent_KernelIdeal_pre_pi_is_0312_Kernel (hKernelIdeal := hKernelIdeal) (hPre_pi_is_0312_Kernel := hPre_pi_is_0312_Kernel)
    ∧ quiescent_KernelIdeal_pre_pi_is_0321_Kernel (hKernelIdeal := hKernelIdeal) (hPre_pi_is_0321_Kernel := hPre_pi_is_0321_Kernel)
    ∧ quiescent_KernelIdeal_pre_pi_is_1023_Kernel (hKernelIdeal := hKernelIdeal) (hPre_pi_is_1023_Kernel := hPre_pi_is_1023_Kernel)
    ∧ quiescent_KernelIdeal_pre_pi_is_1032_Kernel (hKernelIdeal := hKernelIdeal) (hPre_pi_is_1032_Kernel := hPre_pi_is_1032_Kernel)
    ∧ quiescent_KernelIdeal_pre_pi_is_1203_Kernel (hKernelIdeal := hKernelIdeal) (hPre_pi_is_1203_Kernel := hPre_pi_is_1203_Kernel)
    ∧ quiescent_KernelIdeal_pre_pi_is_1230_Kernel (hKernelIdeal := hKernelIdeal) (hPre_pi_is_1230_Kernel := hPre_pi_is_1230_Kernel)
    ∧ quiescent_KernelIdeal_pre_pi_is_1302_Kernel (hKernelIdeal := hKernelIdeal) (hPre_pi_is_1302_Kernel := hPre_pi_is_1302_Kernel)
    ∧ quiescent_KernelIdeal_pre_pi_is_1320_Kernel (hKernelIdeal := hKernelIdeal) (hPre_pi_is_1320_Kernel := hPre_pi_is_1320_Kernel)
    ∧ quiescent_KernelIdeal_pre_pi_is_2013_Kernel (hKernelIdeal := hKernelIdeal) (hPre_pi_is_2013_Kernel := hPre_pi_is_2013_Kernel)
    ∧ quiescent_KernelIdeal_pre_pi_is_2031_Kernel (hKernelIdeal := hKernelIdeal) (hPre_pi_is_2031_Kernel := hPre_pi_is_2031_Kernel)
    ∧ quiescent_KernelIdeal_pre_pi_is_2103_Kernel (hKernelIdeal := hKernelIdeal) (hPre_pi_is_2103_Kernel := hPre_pi_is_2103_Kernel)
    ∧ quiescent_KernelIdeal_pre_pi_is_2130_Kernel (hKernelIdeal := hKernelIdeal) (hPre_pi_is_2130_Kernel := hPre_pi_is_2130_Kernel)
    ∧ quiescent_KernelIdeal_pre_pi_is_2301_Kernel (hKernelIdeal := hKernelIdeal) (hPre_pi_is_2301_Kernel := hPre_pi_is_2301_Kernel)
    ∧ quiescent_KernelIdeal_pre_pi_is_2310_Kernel (hKernelIdeal := hKernelIdeal) (hPre_pi_is_2310_Kernel := hPre_pi_is_2310_Kernel)
    ∧ quiescent_KernelIdeal_pre_pi_is_3012_Kernel (hKernelIdeal := hKernelIdeal) (hPre_pi_is_3012_Kernel := hPre_pi_is_3012_Kernel)
    ∧ quiescent_KernelIdeal_pre_pi_is_3021_Kernel (hKernelIdeal := hKernelIdeal) (hPre_pi_is_3021_Kernel := hPre_pi_is_3021_Kernel)
    ∧ quiescent_KernelIdeal_pre_pi_is_3102_Kernel (hKernelIdeal := hKernelIdeal) (hPre_pi_is_3102_Kernel := hPre_pi_is_3102_Kernel)
    ∧ quiescent_KernelIdeal_pre_pi_is_3120_Kernel (hKernelIdeal := hKernelIdeal) (hPre_pi_is_3120_Kernel := hPre_pi_is_3120_Kernel)
    ∧ quiescent_KernelIdeal_pre_pi_is_3201_Kernel (hKernelIdeal := hKernelIdeal) (hPre_pi_is_3201_Kernel := hPre_pi_is_3201_Kernel)
    ∧ quiescent_KernelIdeal_pre_pi_is_3210_Kernel (hKernelIdeal := hKernelIdeal) (hPre_pi_is_3210_Kernel := hPre_pi_is_3210_Kernel)
    ∧ quiescent_ReferenceIdeal (hReferenceIdeal := hReferenceIdeal)
    ∧ quiescent_ReferenceIdeal_pre_pi_is_0123_ReferenceIdeal (hReferenceIdeal := hReferenceIdeal) (hPre_pi_is_0123_ReferenceIdeal := hPre_pi_is_0123_ReferenceIdeal)
    ∧ quiescent_ReferenceIdeal_pre_pi_is_0132_ReferenceIdeal (hReferenceIdeal := hReferenceIdeal) (hPre_pi_is_0132_ReferenceIdeal := hPre_pi_is_0132_ReferenceIdeal)
    ∧ quiescent_ReferenceIdeal_pre_pi_is_0213_ReferenceIdeal (hReferenceIdeal := hReferenceIdeal) (hPre_pi_is_0213_ReferenceIdeal := hPre_pi_is_0213_ReferenceIdeal)
    ∧ quiescent_ReferenceIdeal_pre_pi_is_0231_ReferenceIdeal (hReferenceIdeal := hReferenceIdeal) (hPre_pi_is_0231_ReferenceIdeal := hPre_pi_is_0231_ReferenceIdeal)
    ∧ quiescent_ReferenceIdeal_pre_pi_is_0312_ReferenceIdeal (hReferenceIdeal := hReferenceIdeal) (hPre_pi_is_0312_ReferenceIdeal := hPre_pi_is_0312_ReferenceIdeal)
    ∧ quiescent_ReferenceIdeal_pre_pi_is_0321_ReferenceIdeal (hReferenceIdeal := hReferenceIdeal) (hPre_pi_is_0321_ReferenceIdeal := hPre_pi_is_0321_ReferenceIdeal)
    ∧ quiescent_ReferenceIdeal_pre_pi_is_1023_ReferenceIdeal (hReferenceIdeal := hReferenceIdeal) (hPre_pi_is_1023_ReferenceIdeal := hPre_pi_is_1023_ReferenceIdeal)
    ∧ quiescent_ReferenceIdeal_pre_pi_is_1032_ReferenceIdeal (hReferenceIdeal := hReferenceIdeal) (hPre_pi_is_1032_ReferenceIdeal := hPre_pi_is_1032_ReferenceIdeal)
    ∧ quiescent_ReferenceIdeal_pre_pi_is_1203_ReferenceIdeal (hReferenceIdeal := hReferenceIdeal) (hPre_pi_is_1203_ReferenceIdeal := hPre_pi_is_1203_ReferenceIdeal)
    ∧ quiescent_ReferenceIdeal_pre_pi_is_1230_ReferenceIdeal (hReferenceIdeal := hReferenceIdeal) (hPre_pi_is_1230_ReferenceIdeal := hPre_pi_is_1230_ReferenceIdeal)
    ∧ quiescent_ReferenceIdeal_pre_pi_is_1302_ReferenceIdeal (hReferenceIdeal := hReferenceIdeal) (hPre_pi_is_1302_ReferenceIdeal := hPre_pi_is_1302_ReferenceIdeal)
    ∧ quiescent_ReferenceIdeal_pre_pi_is_1320_ReferenceIdeal (hReferenceIdeal := hReferenceIdeal) (hPre_pi_is_1320_ReferenceIdeal := hPre_pi_is_1320_ReferenceIdeal)
    ∧ quiescent_ReferenceIdeal_pre_pi_is_2013_ReferenceIdeal (hReferenceIdeal := hReferenceIdeal) (hPre_pi_is_2013_ReferenceIdeal := hPre_pi_is_2013_ReferenceIdeal)
    ∧ quiescent_ReferenceIdeal_pre_pi_is_2031_ReferenceIdeal (hReferenceIdeal := hReferenceIdeal) (hPre_pi_is_2031_ReferenceIdeal := hPre_pi_is_2031_ReferenceIdeal)
    ∧ quiescent_ReferenceIdeal_pre_pi_is_2103_ReferenceIdeal (hReferenceIdeal := hReferenceIdeal) (hPre_pi_is_2103_ReferenceIdeal := hPre_pi_is_2103_ReferenceIdeal)
    ∧ quiescent_ReferenceIdeal_pre_pi_is_2130_ReferenceIdeal (hReferenceIdeal := hReferenceIdeal) (hPre_pi_is_2130_ReferenceIdeal := hPre_pi_is_2130_ReferenceIdeal)
    ∧ quiescent_ReferenceIdeal_pre_pi_is_2301_ReferenceIdeal (hReferenceIdeal := hReferenceIdeal) (hPre_pi_is_2301_ReferenceIdeal := hPre_pi_is_2301_ReferenceIdeal)
    ∧ quiescent_ReferenceIdeal_pre_pi_is_2310_ReferenceIdeal (hReferenceIdeal := hReferenceIdeal) (hPre_pi_is_2310_ReferenceIdeal := hPre_pi_is_2310_ReferenceIdeal)
    ∧ quiescent_ReferenceIdeal_pre_pi_is_3012_ReferenceIdeal (hReferenceIdeal := hReferenceIdeal) (hPre_pi_is_3012_ReferenceIdeal := hPre_pi_is_3012_ReferenceIdeal)
    ∧ quiescent_ReferenceIdeal_pre_pi_is_3021_ReferenceIdeal (hReferenceIdeal := hReferenceIdeal) (hPre_pi_is_3021_ReferenceIdeal := hPre_pi_is_3021_ReferenceIdeal)
    ∧ quiescent_ReferenceIdeal_pre_pi_is_3102_ReferenceIdeal (hReferenceIdeal := hReferenceIdeal) (hPre_pi_is_3102_ReferenceIdeal := hPre_pi_is_3102_ReferenceIdeal)
    ∧ quiescent_ReferenceIdeal_pre_pi_is_3120_ReferenceIdeal (hReferenceIdeal := hReferenceIdeal) (hPre_pi_is_3120_ReferenceIdeal := hPre_pi_is_3120_ReferenceIdeal)
    ∧ quiescent_ReferenceIdeal_pre_pi_is_3201_ReferenceIdeal (hReferenceIdeal := hReferenceIdeal) (hPre_pi_is_3201_ReferenceIdeal := hPre_pi_is_3201_ReferenceIdeal)
    ∧ quiescent_ReferenceIdeal_pre_pi_is_3210_ReferenceIdeal (hReferenceIdeal := hReferenceIdeal) (hPre_pi_is_3210_ReferenceIdeal := hPre_pi_is_3210_ReferenceIdeal)
    ∧ preserves_Kernel_KernelIdeal
    ∧ algebraic_KernelIdeal_ReferenceIdeal (hKernelIdeal := hKernelIdeal) (hReferenceIdeal := hReferenceIdeal) (hPre_pi_is_0123_Kernel := hPre_pi_is_0123_Kernel)
    ∧ algebraic_KernelIdeal_ReferenceIdeal_pre_pi_is_0132_Kernel (hKernelIdeal := hKernelIdeal) (hReferenceIdeal := hReferenceIdeal) (hPre_pi_is_0132_Kernel := hPre_pi_is_0132_Kernel)
    ∧ algebraic_KernelIdeal_ReferenceIdeal_pre_pi_is_0213_Kernel (hKernelIdeal := hKernelIdeal) (hReferenceIdeal := hReferenceIdeal) (hPre_pi_is_0213_Kernel := hPre_pi_is_0213_Kernel)
    ∧ algebraic_KernelIdeal_ReferenceIdeal_pre_pi_is_0231_Kernel (hKernelIdeal := hKernelIdeal) (hReferenceIdeal := hReferenceIdeal) (hPre_pi_is_0231_Kernel := hPre_pi_is_0231_Kernel)
    ∧ algebraic_KernelIdeal_ReferenceIdeal_pre_pi_is_0312_Kernel (hKernelIdeal := hKernelIdeal) (hReferenceIdeal := hReferenceIdeal) (hPre_pi_is_0312_Kernel := hPre_pi_is_0312_Kernel)
    ∧ algebraic_KernelIdeal_ReferenceIdeal_pre_pi_is_0321_Kernel (hKernelIdeal := hKernelIdeal) (hReferenceIdeal := hReferenceIdeal) (hPre_pi_is_0321_Kernel := hPre_pi_is_0321_Kernel)
    ∧ algebraic_KernelIdeal_ReferenceIdeal_pre_pi_is_1023_Kernel (hKernelIdeal := hKernelIdeal) (hReferenceIdeal := hReferenceIdeal) (hPre_pi_is_1023_Kernel := hPre_pi_is_1023_Kernel)
    ∧ algebraic_KernelIdeal_ReferenceIdeal_pre_pi_is_1032_Kernel (hKernelIdeal := hKernelIdeal) (hReferenceIdeal := hReferenceIdeal) (hPre_pi_is_1032_Kernel := hPre_pi_is_1032_Kernel)
    ∧ algebraic_KernelIdeal_ReferenceIdeal_pre_pi_is_1203_Kernel (hKernelIdeal := hKernelIdeal) (hReferenceIdeal := hReferenceIdeal) (hPre_pi_is_1203_Kernel := hPre_pi_is_1203_Kernel)
    ∧ algebraic_KernelIdeal_ReferenceIdeal_pre_pi_is_1230_Kernel (hKernelIdeal := hKernelIdeal) (hReferenceIdeal := hReferenceIdeal) (hPre_pi_is_1230_Kernel := hPre_pi_is_1230_Kernel)
    ∧ algebraic_KernelIdeal_ReferenceIdeal_pre_pi_is_1302_Kernel (hKernelIdeal := hKernelIdeal) (hReferenceIdeal := hReferenceIdeal) (hPre_pi_is_1302_Kernel := hPre_pi_is_1302_Kernel)
    ∧ algebraic_KernelIdeal_ReferenceIdeal_pre_pi_is_1320_Kernel (hKernelIdeal := hKernelIdeal) (hReferenceIdeal := hReferenceIdeal) (hPre_pi_is_1320_Kernel := hPre_pi_is_1320_Kernel)
    ∧ algebraic_KernelIdeal_ReferenceIdeal_pre_pi_is_2013_Kernel (hKernelIdeal := hKernelIdeal) (hReferenceIdeal := hReferenceIdeal) (hPre_pi_is_2013_Kernel := hPre_pi_is_2013_Kernel)
    ∧ algebraic_KernelIdeal_ReferenceIdeal_pre_pi_is_2031_Kernel (hKernelIdeal := hKernelIdeal) (hReferenceIdeal := hReferenceIdeal) (hPre_pi_is_2031_Kernel := hPre_pi_is_2031_Kernel)
    ∧ algebraic_KernelIdeal_ReferenceIdeal_pre_pi_is_2103_Kernel (hKernelIdeal := hKernelIdeal) (hReferenceIdeal := hReferenceIdeal) (hPre_pi_is_2103_Kernel := hPre_pi_is_2103_Kernel)
    ∧ algebraic_KernelIdeal_ReferenceIdeal_pre_pi_is_2130_Kernel (hKernelIdeal := hKernelIdeal) (hReferenceIdeal := hReferenceIdeal) (hPre_pi_is_2130_Kernel := hPre_pi_is_2130_Kernel)
    ∧ algebraic_KernelIdeal_ReferenceIdeal_pre_pi_is_2301_Kernel (hKernelIdeal := hKernelIdeal) (hReferenceIdeal := hReferenceIdeal) (hPre_pi_is_2301_Kernel := hPre_pi_is_2301_Kernel)
    ∧ algebraic_KernelIdeal_ReferenceIdeal_pre_pi_is_2310_Kernel (hKernelIdeal := hKernelIdeal) (hReferenceIdeal := hReferenceIdeal) (hPre_pi_is_2310_Kernel := hPre_pi_is_2310_Kernel)
    ∧ algebraic_KernelIdeal_ReferenceIdeal_pre_pi_is_3012_Kernel (hKernelIdeal := hKernelIdeal) (hReferenceIdeal := hReferenceIdeal) (hPre_pi_is_3012_Kernel := hPre_pi_is_3012_Kernel)
    ∧ algebraic_KernelIdeal_ReferenceIdeal_pre_pi_is_3021_Kernel (hKernelIdeal := hKernelIdeal) (hReferenceIdeal := hReferenceIdeal) (hPre_pi_is_3021_Kernel := hPre_pi_is_3021_Kernel)
    ∧ algebraic_KernelIdeal_ReferenceIdeal_pre_pi_is_3102_Kernel (hKernelIdeal := hKernelIdeal) (hReferenceIdeal := hReferenceIdeal) (hPre_pi_is_3102_Kernel := hPre_pi_is_3102_Kernel)
    ∧ algebraic_KernelIdeal_ReferenceIdeal_pre_pi_is_3120_Kernel (hKernelIdeal := hKernelIdeal) (hReferenceIdeal := hReferenceIdeal) (hPre_pi_is_3120_Kernel := hPre_pi_is_3120_Kernel)
    ∧ algebraic_KernelIdeal_ReferenceIdeal_pre_pi_is_3201_Kernel (hKernelIdeal := hKernelIdeal) (hReferenceIdeal := hReferenceIdeal) (hPre_pi_is_3201_Kernel := hPre_pi_is_3201_Kernel)
    ∧ algebraic_KernelIdeal_ReferenceIdeal_pre_pi_is_3210_Kernel (hKernelIdeal := hKernelIdeal) (hReferenceIdeal := hReferenceIdeal) (hPre_pi_is_3210_Kernel := hPre_pi_is_3210_Kernel)
-- ==== Pre_pi_is_0123_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 0#32 | 1 => 1#32 | 2 => 2#32 | 3 => 3#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_0123_ReferenceIdeal.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 0#32 | 1 => 1#32 | 2 => 2#32 | 3 => 3#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_0132_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 0#32 | 1 => 1#32 | 2 => 3#32 | 3 => 2#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_0132_ReferenceIdeal.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 0#32 | 1 => 1#32 | 2 => 3#32 | 3 => 2#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_0213_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 0#32 | 1 => 2#32 | 2 => 1#32 | 3 => 3#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_0213_ReferenceIdeal.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 0#32 | 1 => 2#32 | 2 => 1#32 | 3 => 3#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_0231_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 0#32 | 1 => 2#32 | 2 => 3#32 | 3 => 1#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_0231_ReferenceIdeal.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 0#32 | 1 => 2#32 | 2 => 3#32 | 3 => 1#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_0312_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 0#32 | 1 => 3#32 | 2 => 1#32 | 3 => 2#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_0312_ReferenceIdeal.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 0#32 | 1 => 3#32 | 2 => 1#32 | 3 => 2#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_0321_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 0#32 | 1 => 3#32 | 2 => 2#32 | 3 => 1#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_0321_ReferenceIdeal.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 0#32 | 1 => 3#32 | 2 => 2#32 | 3 => 1#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_1023_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 1#32 | 1 => 0#32 | 2 => 2#32 | 3 => 3#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_1023_ReferenceIdeal.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 1#32 | 1 => 0#32 | 2 => 2#32 | 3 => 3#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_1032_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 1#32 | 1 => 0#32 | 2 => 3#32 | 3 => 2#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_1032_ReferenceIdeal.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 1#32 | 1 => 0#32 | 2 => 3#32 | 3 => 2#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_1203_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 1#32 | 1 => 2#32 | 2 => 0#32 | 3 => 3#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_1203_ReferenceIdeal.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 1#32 | 1 => 2#32 | 2 => 0#32 | 3 => 3#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_1230_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 1#32 | 1 => 2#32 | 2 => 3#32 | 3 => 0#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_1230_ReferenceIdeal.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 1#32 | 1 => 2#32 | 2 => 3#32 | 3 => 0#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_1302_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 1#32 | 1 => 3#32 | 2 => 0#32 | 3 => 2#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_1302_ReferenceIdeal.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 1#32 | 1 => 3#32 | 2 => 0#32 | 3 => 2#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_1320_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 1#32 | 1 => 3#32 | 2 => 2#32 | 3 => 0#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_1320_ReferenceIdeal.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 1#32 | 1 => 3#32 | 2 => 2#32 | 3 => 0#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_2013_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 2#32 | 1 => 0#32 | 2 => 1#32 | 3 => 3#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_2013_ReferenceIdeal.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 2#32 | 1 => 0#32 | 2 => 1#32 | 3 => 3#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_2031_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 2#32 | 1 => 0#32 | 2 => 3#32 | 3 => 1#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_2031_ReferenceIdeal.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 2#32 | 1 => 0#32 | 2 => 3#32 | 3 => 1#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_2103_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 2#32 | 1 => 1#32 | 2 => 0#32 | 3 => 3#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_2103_ReferenceIdeal.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 2#32 | 1 => 1#32 | 2 => 0#32 | 3 => 3#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_2130_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 2#32 | 1 => 1#32 | 2 => 3#32 | 3 => 0#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_2130_ReferenceIdeal.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 2#32 | 1 => 1#32 | 2 => 3#32 | 3 => 0#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_2301_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 2#32 | 1 => 3#32 | 2 => 0#32 | 3 => 1#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_2301_ReferenceIdeal.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 2#32 | 1 => 3#32 | 2 => 0#32 | 3 => 1#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_2310_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 2#32 | 1 => 3#32 | 2 => 1#32 | 3 => 0#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_2310_ReferenceIdeal.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 2#32 | 1 => 3#32 | 2 => 1#32 | 3 => 0#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_3012_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 3#32 | 1 => 0#32 | 2 => 1#32 | 3 => 2#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_3012_ReferenceIdeal.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 3#32 | 1 => 0#32 | 2 => 1#32 | 3 => 2#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_3021_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 3#32 | 1 => 0#32 | 2 => 2#32 | 3 => 1#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_3021_ReferenceIdeal.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 3#32 | 1 => 0#32 | 2 => 2#32 | 3 => 1#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_3102_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 3#32 | 1 => 1#32 | 2 => 0#32 | 3 => 2#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_3102_ReferenceIdeal.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 3#32 | 1 => 1#32 | 2 => 0#32 | 3 => 2#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_3120_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 3#32 | 1 => 1#32 | 2 => 2#32 | 3 => 0#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_3120_ReferenceIdeal.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 3#32 | 1 => 1#32 | 2 => 2#32 | 3 => 0#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_3201_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 3#32 | 1 => 2#32 | 2 => 0#32 | 3 => 1#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_3201_ReferenceIdeal.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 3#32 | 1 => 2#32 | 2 => 0#32 | 3 => 1#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_3210_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 3#32 | 1 => 2#32 | 2 => 1#32 | 3 => 0#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_3210_ReferenceIdeal.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 3#32 | 1 => 2#32 | 2 => 1#32 | 3 => 0#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Kernel.lean ====
abbrev S1x1024x1024 : Shape := ⟨3, ![1, 1024, 1024]⟩
abbrev S4 : Shape := ⟨1, ![4]⟩
abbrev S8 : Shape := ⟨1, ![8]⟩
abbrev S1 : Shape := ⟨1, ![1]⟩
abbrev S_ : Shape := ⟨0, ![]⟩
abbrev S1x32x1024 : Shape := ⟨3, ![1, 32, 1024]⟩

abbrev nBuf : Space → Nat
  | .hbm => 3
  | .vmem => 0
  | .smem => 1
  | _ => 0

abbrev bufTy : (tb : Table) → Fin (tcTables nBuf tb) → BufTy
  | .hbm, ⟨0, _⟩ => ⟨S1x1024x1024, .f32⟩
  | .hbm, ⟨1, _⟩ => ⟨S4, .i32⟩
  | .hbm, ⟨2, _⟩ => ⟨S1x1024x1024, .f32⟩
  | .local _ .smem, ⟨0, _⟩ => ⟨S4, .i32⟩
  | _, _ => ⟨S1x1024x1024, .f32⟩

abbrev bufScoped : (cs : CoreSpace) → Fin (nBuf (.core cs)) → Bool
  | .smem, ⟨0, _⟩ => true
  | _, _ => false

abbrev semScoped : Fin 1 → Bool
  | ⟨0, _⟩ => false
  | _ => false

abbrev dmaSemScoped : Fin 65 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | _ => false

abbrev sig : RefSig :=
  (ofTc nBuf bufTy 1 65 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.smem, 0, rfl⟩
abbrev cc0_sem0_0 : DmaSem sig := 0
abbrev barrier0 : Sem sig := 0

abbrev nD : Nat := 32
abbrev τ : Topo := Topo.v7x

variable {F : FTy → Type} [FloatOps F]

abbrev grid0 : Pipeline.Grid := .none

def k0_off1 (d0 : Dev nD) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v9 : Index := Scalar.indexCast v8
  ![v9.toNat]
def k0_dev1 (d0 : Dev nD) (v11 : BitVec 32) (v14 : BitVec 32) (v17 : BitVec 32) (v20 : BitVec 32) : Nat :=
  let c0_i32_14 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_13 : BitVec 32 := 16#32
  let v36 : BitVec 32 := Scalar.muli v2 c16_i32_13
  let v37 : BitVec 32 := Scalar.addi c0_i32_14 v36
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_15 : BitVec 32 := 4#32
  let v38 : BitVec 32 := Scalar.muli v5 c4_i32_15
  let v39 : BitVec 32 := Scalar.addi v37 v38
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v21 : BitVec 1 := Scalar.cmpi .eq v20 v8
  let c3_i32 : BitVec 32 := 3#32
  let v18 : BitVec 1 := Scalar.cmpi .eq v17 v8
  let c2_i32_4 : BitVec 32 := 2#32
  let v15 : BitVec 1 := Scalar.cmpi .eq v14 v8
  let c1_i32_3 : BitVec 32 := 1#32
  let v12 : BitVec 1 := Scalar.cmpi .eq v11 v8
  let c0_i32 : BitVec 32 := 0#32
  let c0_i32_2 : BitVec 32 := 0#32
  let v13 : BitVec 32 := Scalar.select v12 c0_i32 c0_i32_2
  let v16 : BitVec 32 := Scalar.select v15 c1_i32_3 v13
  let v19 : BitVec 32 := Scalar.select v18 c2_i32_4 v16
  let v22 : BitVec 32 := Scalar.select v21 c3_i32 v19
  let c1_i32_16 : BitVec 32 := 1#32
  let v40 : BitVec 32 := Scalar.muli v22 c1_i32_16
  let v41 : BitVec 32 := Scalar.addi v39 v40
  v41.toNat

def k0_chk1 (d0 : Dev nD) (v11 : BitVec 32) (v14 : BitVec 32) (v17 : BitVec 32) (v20 : BitVec 32) : Prop :=
  ((k0_dev1 d0 v11 v14 v17 v20) < nD)
theorem k0_dev1_lt : ∀ (d0 : Dev nD) (v11 : BitVec 32) (v14 : BitVec 32) (v17 : BitVec 32) (v20 : BitVec 32) (k0_hw1 : k0_chk1 d0 v11 v14 v17 v20), (k0_dev1 d0 v11 v14 v17 v20) < nD := fun d0 v11 v14 v17 v20 k0_hw1 => k0_hw1

def k0_dev2 (d0 : Dev nD) : Nat :=
  let c0_i32_19 : BitVec 32 := 0#32
  let c1_i32_5 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.subi c1_i32_5 v2
  let c16_i32_18 : BitVec 32 := 16#32
  let v42 : BitVec 32 := Scalar.muli v23 c16_i32_18
  let v43 : BitVec 32 := Scalar.addi c0_i32_19 v42
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_20 : BitVec 32 := 4#32
  let v44 : BitVec 32 := Scalar.muli v5 c4_i32_20
  let v45 : BitVec 32 := Scalar.addi v43 v44
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_21 : BitVec 32 := 1#32
  let v46 : BitVec 32 := Scalar.muli v8 c1_i32_21
  let v47 : BitVec 32 := Scalar.addi v45 v46
  v47.toNat
def k0_dev3 (d0 : Dev nD) : Nat :=
  let c0_i32_24 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_23 : BitVec 32 := 16#32
  let v48 : BitVec 32 := Scalar.muli v2 c16_i32_23
  let v49 : BitVec 32 := Scalar.addi c0_i32_24 v48
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_6 : BitVec 32 := 2#32
  let v24 : BitVec 32 := Scalar.remsi v5 c2_i32_6
  let v25 : BitVec 32 := Scalar.subi v5 v24
  let c1_i32_7 : BitVec 32 := 1#32
  let v26 : BitVec 32 := Scalar.subi c1_i32_7 v24
  let v27 : BitVec 32 := Scalar.addi v25 v26
  let c4_i32_25 : BitVec 32 := 4#32
  let v50 : BitVec 32 := Scalar.muli v27 c4_i32_25
  let v51 : BitVec 32 := Scalar.addi v49 v50
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_26 : BitVec 32 := 1#32
  let v52 : BitVec 32 := Scalar.muli v8 c1_i32_26
  let v53 : BitVec 32 := Scalar.addi v51 v52
  v53.toNat
def k0_off2 (d0 : Dev nD) : Fin 3 → Nat :=
  let c0_i32_35 : BitVec 32 := 0#32
  let c2_i32_8 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v28 : BitVec 32 := Scalar.muli c2_i32_8 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_6 : BitVec 32 := 2#32
  let v24 : BitVec 32 := Scalar.remsi v5 c2_i32_6
  let v29 : BitVec 32 := Scalar.addi v28 v24
  let c256_i32 : BitVec 32 := 256#32
  let v30 : BitVec 32 := Scalar.muli v29 c256_i32
  let c0_i32_28 : BitVec 32 := 0#32
  let v54 : BitVec 32 := Scalar.addi v30 c0_i32_28
  let c0_i32_36 : BitVec 32 := 0#32
  ![0, v54.toNat, 0]
def k0_dev4 (d0 : Dev nD) (v10 : BitVec 32) : Nat :=
  let c0_i32_32 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_31 : BitVec 32 := 16#32
  let v55 : BitVec 32 := Scalar.muli v2 c16_i32_31
  let v56 : BitVec 32 := Scalar.addi c0_i32_32 v55
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_33 : BitVec 32 := 4#32
  let v57 : BitVec 32 := Scalar.muli v5 c4_i32_33
  let v58 : BitVec 32 := Scalar.addi v56 v57
  let c1_i32_34 : BitVec 32 := 1#32
  let v59 : BitVec 32 := Scalar.muli v10 c1_i32_34
  let v60 : BitVec 32 := Scalar.addi v58 v59
  v60.toNat

def k0_off3 (d0 : Dev nD) (c32_i32 : BitVec 32) : Fin 3 → Nat :=
  let c0_i32_45 : BitVec 32 := 0#32
  let c2_i32_8 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v28 : BitVec 32 := Scalar.muli c2_i32_8 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_6 : BitVec 32 := 2#32
  let v24 : BitVec 32 := Scalar.remsi v5 c2_i32_6
  let v29 : BitVec 32 := Scalar.addi v28 v24
  let c256_i32 : BitVec 32 := 256#32
  let v30 : BitVec 32 := Scalar.muli v29 c256_i32
  let v67 : BitVec 32 := Scalar.addi v30 c32_i32
  let c0_i32_46 : BitVec 32 := 0#32
  ![0, v67.toNat, 0]
def k0_dev5 (d0 : Dev nD) (v10 : BitVec 32) : Nat :=
  let c0_i32_42 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_41 : BitVec 32 := 16#32
  let v68 : BitVec 32 := Scalar.muli v2 c16_i32_41
  let v69 : BitVec 32 := Scalar.addi c0_i32_42 v68
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_43 : BitVec 32 := 4#32
  let v70 : BitVec 32 := Scalar.muli v5 c4_i32_43
  let v71 : BitVec 32 := Scalar.addi v69 v70
  let c1_i32_44 : BitVec 32 := 1#32
  let v72 : BitVec 32 := Scalar.muli v10 c1_i32_44
  let v73 : BitVec 32 := Scalar.addi v71 v72
  v73.toNat
def k0_dev6 (d0 : Dev nD) (v10 : BitVec 32) : Nat :=
  let c0_i32_52 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_51 : BitVec 32 := 16#32
  let v81 : BitVec 32 := Scalar.muli v2 c16_i32_51
  let v82 : BitVec 32 := Scalar.addi c0_i32_52 v81
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_53 : BitVec 32 := 4#32
  let v83 : BitVec 32 := Scalar.muli v5 c4_i32_53
  let v84 : BitVec 32 := Scalar.addi v82 v83
  let c1_i32_54 : BitVec 32 := 1#32
  let v85 : BitVec 32 := Scalar.muli v10 c1_i32_54
  let v86 : BitVec 32 := Scalar.addi v84 v85
  v86.toNat
def k0_dev7 (d0 : Dev nD) (v10 : BitVec 32) : Nat :=
  let c0_i32_62 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_61 : BitVec 32 := 16#32
  let v94 : BitVec 32 := Scalar.muli v2 c16_i32_61
  let v95 : BitVec 32 := Scalar.addi c0_i32_62 v94
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_63 : BitVec 32 := 4#32
  let v96 : BitVec 32 := Scalar.muli v5 c4_i32_63
  let v97 : BitVec 32 := Scalar.addi v95 v96
  let c1_i32_64 : BitVec 32 := 1#32
  let v98 : BitVec 32 := Scalar.muli v10 c1_i32_64
  let v99 : BitVec 32 := Scalar.addi v97 v98
  v99.toNat
def k0_dev8 (d0 : Dev nD) (v10 : BitVec 32) : Nat :=
  let c0_i32_72 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_71 : BitVec 32 := 16#32
  let v107 : BitVec 32 := Scalar.muli v2 c16_i32_71
  let v108 : BitVec 32 := Scalar.addi c0_i32_72 v107
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_73 : BitVec 32 := 4#32
  let v109 : BitVec 32 := Scalar.muli v5 c4_i32_73
  let v110 : BitVec 32 := Scalar.addi v108 v109
  let c1_i32_74 : BitVec 32 := 1#32
  let v111 : BitVec 32 := Scalar.muli v10 c1_i32_74
  let v112 : BitVec 32 := Scalar.addi v110 v111
  v112.toNat
def k0_dev9 (d0 : Dev nD) (v10 : BitVec 32) : Nat :=
  let c0_i32_81 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_80 : BitVec 32 := 16#32
  let v120 : BitVec 32 := Scalar.muli v2 c16_i32_80
  let v121 : BitVec 32 := Scalar.addi c0_i32_81 v120
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_82 : BitVec 32 := 4#32
  let v122 : BitVec 32 := Scalar.muli v5 c4_i32_82
  let v123 : BitVec 32 := Scalar.addi v121 v122
  let c1_i32_83 : BitVec 32 := 1#32
  let v124 : BitVec 32 := Scalar.muli v10 c1_i32_83
  let v125 : BitVec 32 := Scalar.addi v123 v124
  v125.toNat
def k0_dev10 (d0 : Dev nD) (v10 : BitVec 32) : Nat :=
  let c0_i32_90 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_89 : BitVec 32 := 16#32
  let v133 : BitVec 32 := Scalar.muli v2 c16_i32_89
  let v134 : BitVec 32 := Scalar.addi c0_i32_90 v133
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_91 : BitVec 32 := 4#32
  let v135 : BitVec 32 := Scalar.muli v5 c4_i32_91
  let v136 : BitVec 32 := Scalar.addi v134 v135
  let c1_i32_92 : BitVec 32 := 1#32
  let v137 : BitVec 32 := Scalar.muli v10 c1_i32_92
  let v138 : BitVec 32 := Scalar.addi v136 v137
  v138.toNat
def k0_dev11 (d0 : Dev nD) (v10 : BitVec 32) : Nat :=
  let c0_i32_99 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_98 : BitVec 32 := 16#32
  let v146 : BitVec 32 := Scalar.muli v2 c16_i32_98
  let v147 : BitVec 32 := Scalar.addi c0_i32_99 v146
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_100 : BitVec 32 := 4#32
  let v148 : BitVec 32 := Scalar.muli v5 c4_i32_100
  let v149 : BitVec 32 := Scalar.addi v147 v148
  let c1_i32_101 : BitVec 32 := 1#32
  let v150 : BitVec 32 := Scalar.muli v10 c1_i32_101
  let v151 : BitVec 32 := Scalar.addi v149 v150
  v151.toNat

def k0_chk2 (d0 : Dev nD) (v10 : BitVec 32) : Prop :=
  ((k0_dev4 d0 v10) < nD) ∧
  ((k0_dev5 d0 v10) < nD) ∧
  ((k0_dev6 d0 v10) < nD) ∧
  ((k0_dev7 d0 v10) < nD) ∧
  ((k0_dev8 d0 v10) < nD) ∧
  ((k0_dev9 d0 v10) < nD) ∧
  ((k0_dev10 d0 v10) < nD) ∧
  ((k0_dev11 d0 v10) < nD)
theorem k0_dev4_lt : ∀ (d0 : Dev nD) (v10 : BitVec 32) (k0_hw2 : k0_chk2 d0 v10), (k0_dev4 d0 v10) < nD := fun d0 v10 k0_hw2 => k0_hw2.1
theorem k0_dev5_lt : ∀ (d0 : Dev nD) (v10 : BitVec 32) (k0_hw2 : k0_chk2 d0 v10), (k0_dev5 d0 v10) < nD := fun d0 v10 k0_hw2 => k0_hw2.2.1
theorem k0_dev6_lt : ∀ (d0 : Dev nD) (v10 : BitVec 32) (k0_hw2 : k0_chk2 d0 v10), (k0_dev6 d0 v10) < nD := fun d0 v10 k0_hw2 => k0_hw2.2.2.1
theorem k0_dev7_lt : ∀ (d0 : Dev nD) (v10 : BitVec 32) (k0_hw2 : k0_chk2 d0 v10), (k0_dev7 d0 v10) < nD := fun d0 v10 k0_hw2 => k0_hw2.2.2.2.1
theorem k0_dev8_lt : ∀ (d0 : Dev nD) (v10 : BitVec 32) (k0_hw2 : k0_chk2 d0 v10), (k0_dev8 d0 v10) < nD := fun d0 v10 k0_hw2 => k0_hw2.2.2.2.2.1
theorem k0_dev9_lt : ∀ (d0 : Dev nD) (v10 : BitVec 32) (k0_hw2 : k0_chk2 d0 v10), (k0_dev9 d0 v10) < nD := fun d0 v10 k0_hw2 => k0_hw2.2.2.2.2.2.1
theorem k0_dev10_lt : ∀ (d0 : Dev nD) (v10 : BitVec 32) (k0_hw2 : k0_chk2 d0 v10), (k0_dev10 d0 v10) < nD := fun d0 v10 k0_hw2 => k0_hw2.2.2.2.2.2.2.1
theorem k0_dev11_lt : ∀ (d0 : Dev nD) (v10 : BitVec 32) (k0_hw2 : k0_chk2 d0 v10), (k0_dev11 d0 v10) < nD := fun d0 v10 k0_hw2 => k0_hw2.2.2.2.2.2.2.2

def k0_dev12 (d0 : Dev nD) : Nat :=
  let c0_i32_120 : BitVec 32 := 0#32
  let c1_i32_5 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.subi c1_i32_5 v2
  let c16_i32_119 : BitVec 32 := 16#32
  let v169 : BitVec 32 := Scalar.muli v23 c16_i32_119
  let v170 : BitVec 32 := Scalar.addi c0_i32_120 v169
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_121 : BitVec 32 := 4#32
  let v171 : BitVec 32 := Scalar.muli v5 c4_i32_121
  let v172 : BitVec 32 := Scalar.addi v170 v171
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_122 : BitVec 32 := 1#32
  let v173 : BitVec 32 := Scalar.muli v8 c1_i32_122
  let v174 : BitVec 32 := Scalar.addi v172 v173
  v174.toNat
def k0_dev13 (d0 : Dev nD) : Nat :=
  let c0_i32_130 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_129 : BitVec 32 := 16#32
  let v181 : BitVec 32 := Scalar.muli v2 c16_i32_129
  let v182 : BitVec 32 := Scalar.addi c0_i32_130 v181
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_6 : BitVec 32 := 2#32
  let v24 : BitVec 32 := Scalar.remsi v5 c2_i32_6
  let v25 : BitVec 32 := Scalar.subi v5 v24
  let c1_i32_7 : BitVec 32 := 1#32
  let v26 : BitVec 32 := Scalar.subi c1_i32_7 v24
  let v27 : BitVec 32 := Scalar.addi v25 v26
  let c4_i32_131 : BitVec 32 := 4#32
  let v183 : BitVec 32 := Scalar.muli v27 c4_i32_131
  let v184 : BitVec 32 := Scalar.addi v182 v183
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_132 : BitVec 32 := 1#32
  let v185 : BitVec 32 := Scalar.muli v8 c1_i32_132
  let v186 : BitVec 32 := Scalar.addi v184 v185
  v186.toNat
def k0_dev14 (d0 : Dev nD) : Nat :=
  let c0_i32_151 : BitVec 32 := 0#32
  let c1_i32_5 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.subi c1_i32_5 v2
  let c16_i32_150 : BitVec 32 := 16#32
  let v204 : BitVec 32 := Scalar.muli v23 c16_i32_150
  let v205 : BitVec 32 := Scalar.addi c0_i32_151 v204
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_152 : BitVec 32 := 4#32
  let v206 : BitVec 32 := Scalar.muli v5 c4_i32_152
  let v207 : BitVec 32 := Scalar.addi v205 v206
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_153 : BitVec 32 := 1#32
  let v208 : BitVec 32 := Scalar.muli v8 c1_i32_153
  let v209 : BitVec 32 := Scalar.addi v207 v208
  v209.toNat
def k0_dev15 (d0 : Dev nD) : Nat :=
  let c0_i32_161 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_160 : BitVec 32 := 16#32
  let v216 : BitVec 32 := Scalar.muli v2 c16_i32_160
  let v217 : BitVec 32 := Scalar.addi c0_i32_161 v216
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_6 : BitVec 32 := 2#32
  let v24 : BitVec 32 := Scalar.remsi v5 c2_i32_6
  let v25 : BitVec 32 := Scalar.subi v5 v24
  let c1_i32_7 : BitVec 32 := 1#32
  let v26 : BitVec 32 := Scalar.subi c1_i32_7 v24
  let v27 : BitVec 32 := Scalar.addi v25 v26
  let c4_i32_162 : BitVec 32 := 4#32
  let v218 : BitVec 32 := Scalar.muli v27 c4_i32_162
  let v219 : BitVec 32 := Scalar.addi v217 v218
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_163 : BitVec 32 := 1#32
  let v220 : BitVec 32 := Scalar.muli v8 c1_i32_163
  let v221 : BitVec 32 := Scalar.addi v219 v220
  v221.toNat
def k0_off4 (d0 : Dev nD) (c0_i32_178 : BitVec 32) : Fin 3 → Nat :=
  let c0_i32_185 : BitVec 32 := 0#32
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v31 : BitVec 32 := Scalar.muli c2_i32_9 v2
  let c1_i32_10 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_6 : BitVec 32 := 2#32
  let v24 : BitVec 32 := Scalar.remsi v5 c2_i32_6
  let v32 : BitVec 32 := Scalar.subi c1_i32_10 v24
  let v33 : BitVec 32 := Scalar.addi v31 v32
  let c256_i32_11 : BitVec 32 := 256#32
  let v34 : BitVec 32 := Scalar.muli v33 c256_i32_11
  let v238 : BitVec 32 := Scalar.addi v34 c0_i32_178
  let c0_i32_186 : BitVec 32 := 0#32
  ![0, v238.toNat, 0]
def k0_dev16 (d0 : Dev nD) : Nat :=
  let c0_i32_182 : BitVec 32 := 0#32
  let c1_i32_5 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.subi c1_i32_5 v2
  let c16_i32_181 : BitVec 32 := 16#32
  let v239 : BitVec 32 := Scalar.muli v23 c16_i32_181
  let v240 : BitVec 32 := Scalar.addi c0_i32_182 v239
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_183 : BitVec 32 := 4#32
  let v241 : BitVec 32 := Scalar.muli v5 c4_i32_183
  let v242 : BitVec 32 := Scalar.addi v240 v241
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_184 : BitVec 32 := 1#32
  let v243 : BitVec 32 := Scalar.muli v8 c1_i32_184
  let v244 : BitVec 32 := Scalar.addi v242 v243
  v244.toNat
def k0_dev17 (d0 : Dev nD) : Nat :=
  let c0_i32_203 : BitVec 32 := 0#32
  let c1_i32_5 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.subi c1_i32_5 v2
  let c16_i32_202 : BitVec 32 := 16#32
  let v262 : BitVec 32 := Scalar.muli v23 c16_i32_202
  let v263 : BitVec 32 := Scalar.addi c0_i32_203 v262
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_204 : BitVec 32 := 4#32
  let v264 : BitVec 32 := Scalar.muli v5 c4_i32_204
  let v265 : BitVec 32 := Scalar.addi v263 v264
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_205 : BitVec 32 := 1#32
  let v266 : BitVec 32 := Scalar.muli v8 c1_i32_205
  let v267 : BitVec 32 := Scalar.addi v265 v266
  v267.toNat
def k0_dev18 (d0 : Dev nD) : Nat :=
  let c0_i32_213 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_212 : BitVec 32 := 16#32
  let v274 : BitVec 32 := Scalar.muli v2 c16_i32_212
  let v275 : BitVec 32 := Scalar.addi c0_i32_213 v274
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_6 : BitVec 32 := 2#32
  let v24 : BitVec 32 := Scalar.remsi v5 c2_i32_6
  let v25 : BitVec 32 := Scalar.subi v5 v24
  let c1_i32_7 : BitVec 32 := 1#32
  let v26 : BitVec 32 := Scalar.subi c1_i32_7 v24
  let v27 : BitVec 32 := Scalar.addi v25 v26
  let c4_i32_214 : BitVec 32 := 4#32
  let v276 : BitVec 32 := Scalar.muli v27 c4_i32_214
  let v277 : BitVec 32 := Scalar.addi v275 v276
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_215 : BitVec 32 := 1#32
  let v278 : BitVec 32 := Scalar.muli v8 c1_i32_215
  let v279 : BitVec 32 := Scalar.addi v277 v278
  v279.toNat
def k0_dev19 (d0 : Dev nD) : Nat :=
  let c0_i32_234 : BitVec 32 := 0#32
  let c1_i32_5 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.subi c1_i32_5 v2
  let c16_i32_233 : BitVec 32 := 16#32
  let v297 : BitVec 32 := Scalar.muli v23 c16_i32_233
  let v298 : BitVec 32 := Scalar.addi c0_i32_234 v297
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_235 : BitVec 32 := 4#32
  let v299 : BitVec 32 := Scalar.muli v5 c4_i32_235
  let v300 : BitVec 32 := Scalar.addi v298 v299
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_236 : BitVec 32 := 1#32
  let v301 : BitVec 32 := Scalar.muli v8 c1_i32_236
  let v302 : BitVec 32 := Scalar.addi v300 v301
  v302.toNat
def k0_dev20 (d0 : Dev nD) : Nat :=
  let c0_i32_255 : BitVec 32 := 0#32
  let c1_i32_5 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.subi c1_i32_5 v2
  let c16_i32_254 : BitVec 32 := 16#32
  let v320 : BitVec 32 := Scalar.muli v23 c16_i32_254
  let v321 : BitVec 32 := Scalar.addi c0_i32_255 v320
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_256 : BitVec 32 := 4#32
  let v322 : BitVec 32 := Scalar.muli v5 c4_i32_256
  let v323 : BitVec 32 := Scalar.addi v321 v322
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_257 : BitVec 32 := 1#32
  let v324 : BitVec 32 := Scalar.muli v8 c1_i32_257
  let v325 : BitVec 32 := Scalar.addi v323 v324
  v325.toNat
def k0_dev21 (d0 : Dev nD) : Nat :=
  let c0_i32_265 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_264 : BitVec 32 := 16#32
  let v332 : BitVec 32 := Scalar.muli v2 c16_i32_264
  let v333 : BitVec 32 := Scalar.addi c0_i32_265 v332
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_6 : BitVec 32 := 2#32
  let v24 : BitVec 32 := Scalar.remsi v5 c2_i32_6
  let v25 : BitVec 32 := Scalar.subi v5 v24
  let c1_i32_7 : BitVec 32 := 1#32
  let v26 : BitVec 32 := Scalar.subi c1_i32_7 v24
  let v27 : BitVec 32 := Scalar.addi v25 v26
  let c4_i32_266 : BitVec 32 := 4#32
  let v334 : BitVec 32 := Scalar.muli v27 c4_i32_266
  let v335 : BitVec 32 := Scalar.addi v333 v334
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_267 : BitVec 32 := 1#32
  let v336 : BitVec 32 := Scalar.muli v8 c1_i32_267
  let v337 : BitVec 32 := Scalar.addi v335 v336
  v337.toNat
def k0_dev22 (d0 : Dev nD) : Nat :=
  let c0_i32_286 : BitVec 32 := 0#32
  let c1_i32_5 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.subi c1_i32_5 v2
  let c16_i32_285 : BitVec 32 := 16#32
  let v355 : BitVec 32 := Scalar.muli v23 c16_i32_285
  let v356 : BitVec 32 := Scalar.addi c0_i32_286 v355
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_287 : BitVec 32 := 4#32
  let v357 : BitVec 32 := Scalar.muli v5 c4_i32_287
  let v358 : BitVec 32 := Scalar.addi v356 v357
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_288 : BitVec 32 := 1#32
  let v359 : BitVec 32 := Scalar.muli v8 c1_i32_288
  let v360 : BitVec 32 := Scalar.addi v358 v359
  v360.toNat
def k0_dev23 (d0 : Dev nD) : Nat :=
  let c0_i32_307 : BitVec 32 := 0#32
  let c1_i32_5 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.subi c1_i32_5 v2
  let c16_i32_306 : BitVec 32 := 16#32
  let v378 : BitVec 32 := Scalar.muli v23 c16_i32_306
  let v379 : BitVec 32 := Scalar.addi c0_i32_307 v378
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_308 : BitVec 32 := 4#32
  let v380 : BitVec 32 := Scalar.muli v5 c4_i32_308
  let v381 : BitVec 32 := Scalar.addi v379 v380
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_309 : BitVec 32 := 1#32
  let v382 : BitVec 32 := Scalar.muli v8 c1_i32_309
  let v383 : BitVec 32 := Scalar.addi v381 v382
  v383.toNat
def k0_dev24 (d0 : Dev nD) : Nat :=
  let c0_i32_317 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_316 : BitVec 32 := 16#32
  let v390 : BitVec 32 := Scalar.muli v2 c16_i32_316
  let v391 : BitVec 32 := Scalar.addi c0_i32_317 v390
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_6 : BitVec 32 := 2#32
  let v24 : BitVec 32 := Scalar.remsi v5 c2_i32_6
  let v25 : BitVec 32 := Scalar.subi v5 v24
  let c1_i32_7 : BitVec 32 := 1#32
  let v26 : BitVec 32 := Scalar.subi c1_i32_7 v24
  let v27 : BitVec 32 := Scalar.addi v25 v26
  let c4_i32_318 : BitVec 32 := 4#32
  let v392 : BitVec 32 := Scalar.muli v27 c4_i32_318
  let v393 : BitVec 32 := Scalar.addi v391 v392
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_319 : BitVec 32 := 1#32
  let v394 : BitVec 32 := Scalar.muli v8 c1_i32_319
  let v395 : BitVec 32 := Scalar.addi v393 v394
  v395.toNat
def k0_dev25 (d0 : Dev nD) : Nat :=
  let c0_i32_338 : BitVec 32 := 0#32
  let c1_i32_5 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.subi c1_i32_5 v2
  let c16_i32_337 : BitVec 32 := 16#32
  let v413 : BitVec 32 := Scalar.muli v23 c16_i32_337
  let v414 : BitVec 32 := Scalar.addi c0_i32_338 v413
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_339 : BitVec 32 := 4#32
  let v415 : BitVec 32 := Scalar.muli v5 c4_i32_339
  let v416 : BitVec 32 := Scalar.addi v414 v415
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_340 : BitVec 32 := 1#32
  let v417 : BitVec 32 := Scalar.muli v8 c1_i32_340
  let v418 : BitVec 32 := Scalar.addi v416 v417
  v418.toNat
def k0_dev26 (d0 : Dev nD) : Nat :=
  let c0_i32_359 : BitVec 32 := 0#32
  let c1_i32_5 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.subi c1_i32_5 v2
  let c16_i32_358 : BitVec 32 := 16#32
  let v436 : BitVec 32 := Scalar.muli v23 c16_i32_358
  let v437 : BitVec 32 := Scalar.addi c0_i32_359 v436
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_360 : BitVec 32 := 4#32
  let v438 : BitVec 32 := Scalar.muli v5 c4_i32_360
  let v439 : BitVec 32 := Scalar.addi v437 v438
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_361 : BitVec 32 := 1#32
  let v440 : BitVec 32 := Scalar.muli v8 c1_i32_361
  let v441 : BitVec 32 := Scalar.addi v439 v440
  v441.toNat
def k0_dev27 (d0 : Dev nD) : Nat :=
  let c0_i32_369 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_368 : BitVec 32 := 16#32
  let v448 : BitVec 32 := Scalar.muli v2 c16_i32_368
  let v449 : BitVec 32 := Scalar.addi c0_i32_369 v448
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_6 : BitVec 32 := 2#32
  let v24 : BitVec 32 := Scalar.remsi v5 c2_i32_6
  let v25 : BitVec 32 := Scalar.subi v5 v24
  let c1_i32_7 : BitVec 32 := 1#32
  let v26 : BitVec 32 := Scalar.subi c1_i32_7 v24
  let v27 : BitVec 32 := Scalar.addi v25 v26
  let c4_i32_370 : BitVec 32 := 4#32
  let v450 : BitVec 32 := Scalar.muli v27 c4_i32_370
  let v451 : BitVec 32 := Scalar.addi v449 v450
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_371 : BitVec 32 := 1#32
  let v452 : BitVec 32 := Scalar.muli v8 c1_i32_371
  let v453 : BitVec 32 := Scalar.addi v451 v452
  v453.toNat
def k0_dev28 (d0 : Dev nD) : Nat :=
  let c0_i32_390 : BitVec 32 := 0#32
  let c1_i32_5 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.subi c1_i32_5 v2
  let c16_i32_389 : BitVec 32 := 16#32
  let v471 : BitVec 32 := Scalar.muli v23 c16_i32_389
  let v472 : BitVec 32 := Scalar.addi c0_i32_390 v471
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_391 : BitVec 32 := 4#32
  let v473 : BitVec 32 := Scalar.muli v5 c4_i32_391
  let v474 : BitVec 32 := Scalar.addi v472 v473
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_392 : BitVec 32 := 1#32
  let v475 : BitVec 32 := Scalar.muli v8 c1_i32_392
  let v476 : BitVec 32 := Scalar.addi v474 v475
  v476.toNat
def k0_dev29 (d0 : Dev nD) : Nat :=
  let c0_i32_411 : BitVec 32 := 0#32
  let c1_i32_5 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.subi c1_i32_5 v2
  let c16_i32_410 : BitVec 32 := 16#32
  let v494 : BitVec 32 := Scalar.muli v23 c16_i32_410
  let v495 : BitVec 32 := Scalar.addi c0_i32_411 v494
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_412 : BitVec 32 := 4#32
  let v496 : BitVec 32 := Scalar.muli v5 c4_i32_412
  let v497 : BitVec 32 := Scalar.addi v495 v496
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_413 : BitVec 32 := 1#32
  let v498 : BitVec 32 := Scalar.muli v8 c1_i32_413
  let v499 : BitVec 32 := Scalar.addi v497 v498
  v499.toNat
def k0_dev30 (d0 : Dev nD) : Nat :=
  let c0_i32_421 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_420 : BitVec 32 := 16#32
  let v506 : BitVec 32 := Scalar.muli v2 c16_i32_420
  let v507 : BitVec 32 := Scalar.addi c0_i32_421 v506
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_6 : BitVec 32 := 2#32
  let v24 : BitVec 32 := Scalar.remsi v5 c2_i32_6
  let v25 : BitVec 32 := Scalar.subi v5 v24
  let c1_i32_7 : BitVec 32 := 1#32
  let v26 : BitVec 32 := Scalar.subi c1_i32_7 v24
  let v27 : BitVec 32 := Scalar.addi v25 v26
  let c4_i32_422 : BitVec 32 := 4#32
  let v508 : BitVec 32 := Scalar.muli v27 c4_i32_422
  let v509 : BitVec 32 := Scalar.addi v507 v508
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_423 : BitVec 32 := 1#32
  let v510 : BitVec 32 := Scalar.muli v8 c1_i32_423
  let v511 : BitVec 32 := Scalar.addi v509 v510
  v511.toNat
def k0_dev31 (d0 : Dev nD) : Nat :=
  let c0_i32_442 : BitVec 32 := 0#32
  let c1_i32_5 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.subi c1_i32_5 v2
  let c16_i32_441 : BitVec 32 := 16#32
  let v529 : BitVec 32 := Scalar.muli v23 c16_i32_441
  let v530 : BitVec 32 := Scalar.addi c0_i32_442 v529
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_443 : BitVec 32 := 4#32
  let v531 : BitVec 32 := Scalar.muli v5 c4_i32_443
  let v532 : BitVec 32 := Scalar.addi v530 v531
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_444 : BitVec 32 := 1#32
  let v533 : BitVec 32 := Scalar.muli v8 c1_i32_444
  let v534 : BitVec 32 := Scalar.addi v532 v533
  v534.toNat
def k0_dev32 (d0 : Dev nD) : Nat :=
  let c0_i32_463 : BitVec 32 := 0#32
  let c1_i32_5 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.subi c1_i32_5 v2
  let c16_i32_462 : BitVec 32 := 16#32
  let v552 : BitVec 32 := Scalar.muli v23 c16_i32_462
  let v553 : BitVec 32 := Scalar.addi c0_i32_463 v552
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_464 : BitVec 32 := 4#32
  let v554 : BitVec 32 := Scalar.muli v5 c4_i32_464
  let v555 : BitVec 32 := Scalar.addi v553 v554
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_465 : BitVec 32 := 1#32
  let v556 : BitVec 32 := Scalar.muli v8 c1_i32_465
  let v557 : BitVec 32 := Scalar.addi v555 v556
  v557.toNat
def k0_dev33 (d0 : Dev nD) : Nat :=
  let c0_i32_473 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_472 : BitVec 32 := 16#32
  let v564 : BitVec 32 := Scalar.muli v2 c16_i32_472
  let v565 : BitVec 32 := Scalar.addi c0_i32_473 v564
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_6 : BitVec 32 := 2#32
  let v24 : BitVec 32 := Scalar.remsi v5 c2_i32_6
  let v25 : BitVec 32 := Scalar.subi v5 v24
  let c1_i32_7 : BitVec 32 := 1#32
  let v26 : BitVec 32 := Scalar.subi c1_i32_7 v24
  let v27 : BitVec 32 := Scalar.addi v25 v26
  let c4_i32_474 : BitVec 32 := 4#32
  let v566 : BitVec 32 := Scalar.muli v27 c4_i32_474
  let v567 : BitVec 32 := Scalar.addi v565 v566
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_475 : BitVec 32 := 1#32
  let v568 : BitVec 32 := Scalar.muli v8 c1_i32_475
  let v569 : BitVec 32 := Scalar.addi v567 v568
  v569.toNat
def k0_dev34 (d0 : Dev nD) : Nat :=
  let c0_i32_494 : BitVec 32 := 0#32
  let c1_i32_5 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.subi c1_i32_5 v2
  let c16_i32_493 : BitVec 32 := 16#32
  let v587 : BitVec 32 := Scalar.muli v23 c16_i32_493
  let v588 : BitVec 32 := Scalar.addi c0_i32_494 v587
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_495 : BitVec 32 := 4#32
  let v589 : BitVec 32 := Scalar.muli v5 c4_i32_495
  let v590 : BitVec 32 := Scalar.addi v588 v589
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_496 : BitVec 32 := 1#32
  let v591 : BitVec 32 := Scalar.muli v8 c1_i32_496
  let v592 : BitVec 32 := Scalar.addi v590 v591
  v592.toNat
def k0_dev35 (d0 : Dev nD) : Nat :=
  let c0_i32_515 : BitVec 32 := 0#32
  let c1_i32_5 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v23 : BitVec 32 := Scalar.subi c1_i32_5 v2
  let c16_i32_514 : BitVec 32 := 16#32
  let v610 : BitVec 32 := Scalar.muli v23 c16_i32_514
  let v611 : BitVec 32 := Scalar.addi c0_i32_515 v610
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_516 : BitVec 32 := 4#32
  let v612 : BitVec 32 := Scalar.muli v5 c4_i32_516
  let v613 : BitVec 32 := Scalar.addi v611 v612
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_517 : BitVec 32 := 1#32
  let v614 : BitVec 32 := Scalar.muli v8 c1_i32_517
  let v615 : BitVec 32 := Scalar.addi v613 v614
  v615.toNat
abbrev stage0_0 : Fin 1 → Memref sig .tc .smem S4 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4x1024x1024 : Shape := ⟨3, ![4, 1024, 1024]⟩
abbrev S4 : Shape := ⟨1, ![4]⟩
abbrev S_ : Shape := ⟨0, ![]⟩
abbrev S4x1 : Shape := ⟨2, ![4, 1]⟩

abbrev nBuf : Space → Nat
  | .hbm => 14
  | .vmem => 0
  | .smem => 0
  | _ => 0

abbrev bufTy : (tb : Table) → Fin (tcTables nBuf tb) → BufTy
  | .hbm, ⟨0, _⟩ => ⟨S4x1024x1024, .f32⟩
  | .hbm, ⟨1, _⟩ => ⟨S4, .i32⟩
  | .hbm, ⟨2, _⟩ => ⟨S4, .i32⟩
  | .hbm, ⟨3, _⟩ => ⟨S4, .i32⟩
  | .hbm, ⟨4, _⟩ => ⟨S4, .i32⟩
  | .hbm, ⟨5, _⟩ => ⟨S_, .i32⟩
  | .hbm, ⟨6, _⟩ => ⟨S4, .i32⟩
  | .hbm, ⟨7, _⟩ => ⟨S4, .i1⟩
  | .hbm, ⟨8, _⟩ => ⟨S_, .i32⟩
  | .hbm, ⟨9, _⟩ => ⟨S4, .i32⟩
  | .hbm, ⟨10, _⟩ => ⟨S4, .i32⟩
  | .hbm, ⟨11, _⟩ => ⟨S4, .i32⟩
  | .hbm, ⟨12, _⟩ => ⟨S4x1, .i32⟩
  | .hbm, ⟨13, _⟩ => ⟨S4x1024x1024, .f32⟩
  | _, _ => ⟨S4x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Proof.Mesh.lean ====
/-
# The mesh of thirty-two devices: its neighbours, its quarters of rows, and a permutation of its third axis

Device `c` sits at `(x, y, z)` with `c = 16 x + 4 y + z`. `px` is its neighbour along `x`, `py` the other device of its
pair along `y`, and `atZ c z` the device with `c`'s `x` and `y` at `z`. Every device copies one quarter of the rows of
its block to its receiver; which quarter depends on `x` and on the parity of `y` alone (`quart`), so the four devices
`c`, `px c`, `py c`, `px (py c)` copy the four different quarters: `own c j` is the one of them that copies quarter `j`.
A permutation `σ` of the third axis gives every device its receiver (`dest σ`) and its sender (`origin σ`).
-/
module

public import Idealize.ShloMosaic.Lib.Tactic

@[expose] public section

namespace Cert.Mesh

/-- The neighbour along `x`. -/
def px (c : Fin 32) : Fin 32 := ⟨(c.val + 16) % 32, Nat.mod_lt _ (by decide)⟩
/-- The other device of the pair along `y`. -/
def py (c : Fin 32) : Fin 32 := ⟨8 * (c.val / 8) + (c.val + 4) % 8, by have := c.isLt; omega⟩
/-- The coordinate along the third axis. -/
def zOf (c : Fin 32) : Fin 4 := ⟨c.val % 4, Nat.mod_lt _ (by decide)⟩
/-- The device with `c`'s first two coordinates at `z`. -/
def atZ (c : Fin 32) (z : Fin 4) : Fin 32 := ⟨4 * (c.val / 4) + z.val, by have := c.isLt; have := z.isLt; omega⟩
/-- The quarter of the rows that `c` copies to its receiver. -/
def quart (c : Fin 32) : Fin 4 := ⟨2 * (c.val / 16) + c.val / 4 % 2, by have := c.isLt; omega⟩
/-- Of `c`, `px c`, `py c` and `px (py c)`, the device whose quarter is `j`. -/
def own (c : Fin 32) (j : Fin 4) : Fin 32 :=
  ⟨16 * (j.val / 2) + 4 * (2 * (c.val / 8 % 2) + j.val % 2) + c.val % 4, by have := c.isLt; have := j.isLt; omega⟩

theorem px_px : ∀ c, px (px c) = c := by decide
theorem py_py : ∀ c, py (py c) = c := by decide
theorem px_py : ∀ c, px (py c) = py (px c) := by decide
theorem atZ_zOf : ∀ c, atZ c (zOf c) = c := by decide
theorem zOf_atZ : ∀ c z, zOf (atZ c z) = z := by decide
theorem atZ_atZ : ∀ c z z', atZ (atZ c z) z' = atZ c z' := by decide
theorem quart_atZ : ∀ c z, quart (atZ c z) = quart c := by decide
theorem own_atZ : ∀ c z j, own (atZ c z) j = atZ (own c j) z := by decide
theorem zOf_own : ∀ c j, zOf (own c j) = zOf c := by decide
theorem own_px : ∀ c j, own (px c) j = own c j := by decide
theorem own_py : ∀ c j, own (py c) j = own c j := by decide
theorem own_quart : ∀ c, own c (quart c) = c := by decide

/-- The four quarters as seen by `c`: its own, then those of `px c`, `py c` and `py (px c)`. -/
def quarts (c : Fin 32) : Fin 4 → Fin 4 := ![quart c, quart (px c), quart (py c), quart (py (px c))]
theorem quarts_bijective : ∀ c, Function.Bijective (quarts c) := by decide
noncomputable def quartsE (c : Fin 32) : Fin 4 ≃ Fin 4 := Equiv.ofBijective _ (quarts_bijective c)

/-- The two neighbours as permutations of the devices. -/
def pxE : Fin 32 ≃ Fin 32 := ⟨px, px, px_px, px_px⟩
def pyE : Fin 32 ≃ Fin 32 := ⟨py, py, py_py, py_py⟩

variable (σ : Equiv.Perm (Fin 4))

/-- The device that receives `c`'s block. -/
def dest (c : Fin 32) : Fin 32 := atZ c (σ (zOf c))
/-- The device whose block `c` receives. -/
def origin (c : Fin 32) : Fin 32 := atZ c (σ.symm (zOf c))
theorem origin_dest (c : Fin 32) : origin σ (dest σ c) = c := by
  unfold origin dest; rw [zOf_atZ, atZ_atZ, Equiv.symm_apply_apply, atZ_zOf]
theorem dest_origin (c : Fin 32) : dest σ (origin σ c) = c := by
  unfold origin dest; rw [zOf_atZ, atZ_atZ, Equiv.apply_symm_apply, atZ_zOf]
def destE : Fin 32 ≃ Fin 32 := ⟨dest σ, origin σ, origin_dest σ, dest_origin σ⟩
theorem quart_dest (c : Fin 32) : quart (dest σ c) = quart c := quart_atZ _ _
theorem own_dest_quart (c : Fin 32) : own (dest σ c) (quart c) = dest σ c := by
  rw [← quart_dest σ c, own_quart]
theorem zOf_origin (c : Fin 32) : zOf (origin σ c) = σ.symm (zOf c) := zOf_atZ _ _

/-- The table a permutation is: word `z` is `σ z`. -/
def word (z : Fin 4) : BitVec 32 := BitVec.ofNat 32 (σ z).val

end Cert.Mesh
-- ==== Proof.Table.lean ====
/-
# A literal table that is a permutation

A precondition compares a device's table with four literal words. Where the four are the numbers below four in some
order (`Valid`, decided at each literal), the table is the permutation `permOf` of that order.
-/
module

public import proofs.«01_k».proof.Proof.Mesh
public import Idealize.ShloMosaic.PureOps
public import Idealize.ShloMosaic.Lib.Tactic

@[expose] public section

namespace Cert.Mesh

open Idealize.ShloMosaic

variable (lit : Fin 4 → BitVec 32)

/-- The numbers that the words are, each below four. -/
def digits (z : Fin 4) : Fin 4 := ⟨(lit z).toNat % 4, Nat.mod_lt _ (by decide)⟩

/-- The words are the numbers below four, each once. -/
abbrev Valid : Prop := Function.Injective (digits lit) ∧ ∀ z, BitVec.ofNat 32 (digits lit z).val = lit z

variable {lit}

noncomputable def permOf (h : Valid lit) : Equiv.Perm (Fin 4) := Equiv.ofBijective _ (Finite.injective_iff_bijective.mp h.1)

theorem word_permOf (h : Valid lit) (z : Fin 4) : word (permOf h) z = lit z := h.2 z

/-- A table equal to the words, element by element, is the permutation's. -/
theorem table_of (h : Valid lit) (A : IVec ⟨1, ![4]⟩ 32)
    (hA : cmpi .eq A (fun i => lit ((⟨1, ![4]⟩ : Shape).rowMajor i)) = fun _ => 1#1) (i : (⟨1, ![4]⟩ : Shape).Idx) :
    A i = word (permOf h) (i 0) := by
  have e : BitVec.ofBool (A i == lit ((⟨1, ![4]⟩ : Shape).rowMajor i)) = 1#1 := congrFun hA i
  have hi : (⟨1, ![4]⟩ : Shape).rowMajor i = i 0 := Fin.ext (Shape.rowMajor_val_one i)
  refine Eq.trans (eq_of_beq ?_) ((congrArg lit hi).trans (word_permOf h (i 0)).symm)
  revert e
  cases (A i == lit ((⟨1, ![4]⟩ : Shape).rowMajor i)) <;> simp

end Cert.Mesh
-- ==== Proof.Word.Frame.lean ====
/-
# The run at a literal table, its values dropped

A launch whose every device holds the same four words, a permutation, ends with its arguments unchanged and every
semaphore at zero: `Route.run_main` at that permutation.
-/
module

public import proofs.«01_k».proof.Proof.Word.Launch
public import proofs.«01_k».proof.Proof.Table

@[expose] public section

noncomputable section

namespace Cert.Kernel.Route

open Cert.Kernel Cert.Kernel.Gen Cert.Mesh
open Idealize.ShloMosaic Idealize.ShloMosaic.TcCoe Idealize.SL.Sem

variable {F : FTy → Type} [FloatOps F] {lit : Fin 4 → BitVec 32}

theorem frame (hl : Valid lit) (m : (ℓ : Loc nD τ sig) → Buf (Elt F) ℓ) (ρ : Dev nD → PrngReg)
    (h : ∀ c : Dev nD, cmpi .eq (m ((c : Thread nD τ).loc main_arg1) : IVec S4 32) (fun i => lit (S4.rowMajor i)) = fun _ => 1#1) :
    θ_run defs (onTc (τ := τ) (main (F := F))) ⟨m, fun _ => 0, ρ⟩ (fun r =>
      (∀ c : Dev nD, r.2.mem ((c : Thread nD τ).loc main_arg0) = m ((c : Thread nD τ).loc main_arg0)
        ∧ r.2.mem ((c : Thread nD τ).loc main_arg1) = m ((c : Thread nD τ).loc main_arg1)) ∧ r.2.sem = fun _ => 0) :=
  (θ_run defs _ _).mono (fun _ hr => ⟨fun c => ⟨(hr.1 c).1, (hr.1 c).2.1⟩, hr.2⟩)
    (run_main (permOf hl) m ρ fun c => table_of hl _ (h c))

end Cert.Kernel.Route

end
-- ==== Proof.Ideal.Plan.lean ====
/-
# The body, read plainly

The devices the body addresses are the receiver and the sender of the table's permutation and the two neighbours (`devX_eq` and
its neighbours, `devZ_eq`, `dev1_word`). Its copies are of four kinds (`Lane`), eight chunks of thirty-two rows each, and
the body is the list `order` of starts and waits, played after the barrier (`body_eq`).
-/
module

public import proofs.«01_k».proof.Proof.Mesh
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.Tactic

@[expose] public section

noncomputable section

namespace Cert.KernelIdeal.Route

open Cert.KernelIdeal Cert.KernelIdeal.Gen Cert.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The devices the body addresses -/

section Devices

variable (c : Dev nD)

/-- The printed receiver of copy `k` along `x`, of copy `k` along `y`, and of the forwarded copy `k`. -/
def devX (k : Fin 8) : Dev nD := ![⟨k0_dev12 c, k0_dev12_lt c⟩, ⟨k0_dev14 c, k0_dev14_lt c⟩, ⟨k0_dev17 c, k0_dev17_lt c⟩, ⟨k0_dev20 c, k0_dev20_lt c⟩,
  ⟨k0_dev23 c, k0_dev23_lt c⟩, ⟨k0_dev26 c, k0_dev26_lt c⟩, ⟨k0_dev29 c, k0_dev29_lt c⟩, ⟨k0_dev32 c, k0_dev32_lt c⟩] k
def devY (k : Fin 8) : Dev nD := ![⟨k0_dev13 c, k0_dev13_lt c⟩, ⟨k0_dev15 c, k0_dev15_lt c⟩, ⟨k0_dev18 c, k0_dev18_lt c⟩, ⟨k0_dev21 c, k0_dev21_lt c⟩,
  ⟨k0_dev24 c, k0_dev24_lt c⟩, ⟨k0_dev27 c, k0_dev27_lt c⟩, ⟨k0_dev30 c, k0_dev30_lt c⟩, ⟨k0_dev33 c, k0_dev33_lt c⟩] k
def devF (k : Fin 8) : Dev nD := ![⟨k0_dev16 c, k0_dev16_lt c⟩, ⟨k0_dev19 c, k0_dev19_lt c⟩, ⟨k0_dev22 c, k0_dev22_lt c⟩, ⟨k0_dev25 c, k0_dev25_lt c⟩,
  ⟨k0_dev28 c, k0_dev28_lt c⟩, ⟨k0_dev31 c, k0_dev31_lt c⟩, ⟨k0_dev34 c, k0_dev34_lt c⟩, ⟨k0_dev35 c, k0_dev35_lt c⟩] k
/-- The printed receiver of copy `k` along the third axis, read off the table's word `w`. -/
def devZ (w : BitVec 32) (hw : k0_chk2 c w) (k : Fin 8) : Dev nD := ![⟨k0_dev4 c w, k0_dev4_lt c w hw⟩, ⟨k0_dev5 c w, k0_dev5_lt c w hw⟩,
  ⟨k0_dev6 c w, k0_dev6_lt c w hw⟩, ⟨k0_dev7 c w, k0_dev7_lt c w hw⟩, ⟨k0_dev8 c w, k0_dev8_lt c w hw⟩, ⟨k0_dev9 c w, k0_dev9_lt c w hw⟩,
  ⟨k0_dev10 c w, k0_dev10_lt c w hw⟩, ⟨k0_dev11 c w, k0_dev11_lt c w hw⟩] k

end Devices

theorem devX_eq : ∀ (c : Dev nD) (k : Fin 8), devX c k = px c := by decide +kernel
theorem devY_eq : ∀ (c : Dev nD) (k : Fin 8), devY c k = py c := by decide +kernel
theorem devF_eq : ∀ (c : Dev nD) (k : Fin 8), devF c k = px c := by decide +kernel
theorem dev2_eq : ∀ c : Dev nD, (⟨k0_dev2 c, k0_dev2_lt c⟩ : Dev nD) = px c := by decide +kernel
theorem dev3_eq : ∀ c : Dev nD, (⟨k0_dev3 c, k0_dev3_lt c⟩ : Dev nD) = py c := by decide +kernel
theorem chk2_word : ∀ (c : Dev nD) (z : Fin 4), k0_chk2 c (BitVec.ofNat 32 z.val) := by decide +kernel
theorem devZ_eq : ∀ (c : Dev nD) (z : Fin 4) (k : Fin 8), devZ c (BitVec.ofNat 32 z.val) (chk2_word c z) k = atZ c z := by decide +kernel
theorem dev1_words : ∀ (a b d e : Fin 4) (c : Dev nD),
    k0_dev1 c (BitVec.ofNat 32 a.val) (BitVec.ofNat 32 b.val) (BitVec.ofNat 32 d.val) (BitVec.ofNat 32 e.val)
      = (atZ c (if e = zOf c then 3 else if d = zOf c then 2 else if b = zOf c then 1 else 0)).val := by decide +kernel
/-- The search of the table for `c`'s own coordinate ends at the one place that holds it. -/
theorem dev1_word (σ : Equiv.Perm (Fin 4)) (c : Dev nD) : k0_dev1 c (word σ 0) (word σ 1) (word σ 2) (word σ 3) = (origin σ c).val := by
  unfold word origin
  rw [dev1_words]
  have h : σ (σ.symm (zOf c)) = zOf c := σ.apply_symm_apply _
  generalize σ.symm (zOf c) = p at h ⊢
  rw [← h]; simp only [σ.injective.eq_iff]
  clear h; congr 2; revert p; decide
theorem chk1_word (σ : Equiv.Perm (Fin 4)) (c : Dev nD) : k0_chk1 c (word σ 0) (word σ 1) (word σ 2) (word σ 3) := by
  unfold k0_chk1; rw [dev1_word]; exact (origin σ c).isLt

/-! ## The copies, their chunks and their semaphores -/

/-- The four kinds of copies: a device's block along the third axis, the received rows along `x` and along `y`, and the rows
    received along `y` forwarded along `x`. -/
inductive Lane | z | x | y | f
  deriving DecidableEq

instance : Fintype Lane := ⟨{Lane.z, Lane.x, Lane.y, Lane.f}, fun l => by cases l <;> decide⟩

abbrev tM : Memref sig .tc .smem S4 .i32 := Memref.whole cc0_stg0_0
abbrev xM : Memref sig .tc .hbm S1x1024x1024 .f32 := Memref.whole main_arg0
abbrev oM : Memref sig .tc .hbm S1x1024x1024 .f32 := Memref.whole main_v1

/-- Thirty-two rows of a block, from offset `off`. -/
abbrev rows (M : Memref sig .tc .hbm S1x1024x1024 .f32) (off : Fin 3 → ℕ) (h : ∀ a, off a + S1x32x1024.size a ≤ S1x1024x1024.size a) :
    Memref sig .tc .hbm S1x32x1024 .f32 := M.slice (Rect.unit (s := S1x1024x1024) off S1x32x1024.size h) (fun _ => rfl)

/-- The offset of chunk `k` as the body computes it for a wait on a lane, and for a copy. -/
def offW (c : Dev nD) : Lane → Fin 8 → Fin 3 → ℕ
  | .f, k => k0_off4 c (BitVec.ofNat 32 (32 * k.val))
  | _, k => k0_off3 c (BitVec.ofNat 32 (32 * k.val))
theorem offW_inb (c : Dev nD) : ∀ (l : Lane) (k : Fin 8) a, offW c l k a + S1x32x1024.size a ≤ S1x1024x1024.size a
  | .f, k => k0_off4_inb c k
  | .z, k => k0_off3_inb c k
  | .x, k => k0_off3_inb c k
  | .y, k => k0_off3_inb c k
def offS (c : Dev nD) : Lane → Fin 8 → Fin 3 → ℕ
  | .z, 0 => k0_off2 c
  | l, k => offW c l k
theorem offS_inb (c : Dev nD) : ∀ (l : Lane) (k : Fin 8) a, offS c l k a + S1x32x1024.size a ≤ S1x1024x1024.size a
  | .z, 0 => k0_off2_inb c
  | .z, ⟨k + 1, h⟩ => offW_inb c .z ⟨k + 1, h⟩
  | .f, k => offW_inb c .f k
  | .x, k => offW_inb c .x k
  | .y, k => offW_inb c .y k

/-- The buffer a lane's copies read. -/
def srcM : Lane → Memref sig .tc .hbm S1x1024x1024 .f32
  | .z => xM
  | _ => oM

theorem inb8 (k : Fin 8) : ∀ a, (![k.val] : Fin 1 → ℕ) a + S1.size a ≤ S8.size a := by revert k; decide
/-- Semaphore `k` of an array of eight. -/
abbrev semOf (a : DmaSems sig S8) (k : Fin 8) : DmaSem sig := ((a.slice (Rect.unit (s := S8) ![k.val] S1.size (inb8 k))).squeeze S_ squeezes_S1_S_).sem
/-- The semaphores of a lane: the sender's and the receiver's. -/
def sendA : Lane → DmaSems sig S8 | .z => cc0_scratch0 | .x => cc0_scratch2 | .y => cc0_scratch4 | .f => cc0_scratch6
def recvA : Lane → DmaSems sig S8 | .z => cc0_scratch1 | .x => cc0_scratch3 | .y => cc0_scratch5 | .f => cc0_scratch7

/-- The barrier semaphore. -/
abbrev barS : Sem sig := (SemArray.scalar (sig.barrier 0 rfl) : Sems sig S_).sem

/-- The device copy `k` of a lane goes to, as the body computes it. -/
def devTo (c : Dev nD) (w : BitVec 32) (hw : k0_chk2 c w) : Lane → Fin 8 → Dev nD
  | .z => devZ c w hw
  | .x => devX c
  | .y => devY c
  | .f => devF c

/-! ## The body as a list of actions -/

/-- What the body does with a chunk of a lane: start its copy, wait for the copy it receives, wait until its own copy has been read. -/
inductive Act | send (l : Lane) | recv (l : Lane) | drain (l : Lane)
  deriving DecidableEq

def act (c : Dev nD) (w : BitVec 32) (hw : k0_chk2 c w) : Act × Fin 8 → TpuEff nD τ sig (Elt F) Λ₀ .tc PUnit
  | (.send l, k) => .enqueueDma (rows (srcM l) (offS c l k) (offS_inb c l k))
      (.remote (Dev.tc (devTo c w hw l k)) (rows oM (offS c l k) (offS_inb c l k)) (.dma (semOf (sendA l) k))) (.dma (semOf (recvA l) k))
      (View.wordExact_bits rfl) (View.wordExact_bits rfl) ⟨⟨rfl, Or.inl rfl⟩, trivial⟩
  | (.recv l, k) => .waitDma2 (semOf (recvA l) k) (rows (srcM l) (offW c l k) (offW_inb c l k)) (rows oM (offW c l k) (offW_inb c l k))
      (View.wordExact_bits rfl) (View.wordExact_bits rfl)
  | (.drain l, k) => .waitDma2 (semOf (sendA l) k) (rows oM (offW c l k) (offW_inb c l k)) (rows (srcM l) (offW c l k) (offW_inb c l k))
      (View.wordExact_bits rfl) (View.wordExact_bits rfl)

/-- The actions in order. -/
def play (c : Dev nD) (w : BitVec 32) (hw : k0_chk2 c w) : List (Act × Fin 8) → Prog (TpuEff nD τ sig (Elt F) Λ₀ .tc) PUnit
  | [] => .ret ⟨⟩
  | s :: l => .op (act c w hw s) fun _ => play c w hw l

/-- The order of the body: all copies along the third axis; chunk by chunk what was received onwards along `x` and `y`, one chunk
    later what came along `y` forwarded; then what is still to be waited for. -/
def order : List (Act × Fin 8) :=
  [(.send .z, 0), (.send .z, 1), (.send .z, 2), (.send .z, 3), (.send .z, 4), (.send .z, 5), (.send .z, 6), (.send .z, 7),
    (.recv .z, 0), (.send .x, 0), (.send .y, 0)]
  ++ [1, 2, 3, 4, 5, 6, 7].flatMap (fun k : Fin 8 => [(.recv .z, k), (.send .x, k), (.send .y, k), (.recv .y, k - 1), (.send .f, k - 1)])
  ++ [(.recv .y, 7), (.send .f, 7)]
  ++ [0, 1, 2, 3, 4, 5, 6, 7].flatMap (fun k : Fin 8 => [(.recv .x, k), (.recv .f, k), (.drain .z, k), (.drain .x, k), (.drain .y, k), (.drain .f, k)])

/-- The body: the table's words, a signal to each of the three devices that copy here, the wait for the three devices that this
    one copies to, and the actions in order. -/
def flat : Prog (TpuEff nD τ sig (Elt F) Λ₀ .tc) PUnit := do
  let c : Dev nD ← Prog.lift .deviceId
  let w : Elt F .i32 ← smemLoad tM (Rect.unit (s := S4) (k0_off1 c) S1.size (k0_off1_inb c)) numel1_S1 rfl
  have hw : k0_chk2 c w := (← Prog.lift (TpuEff.assume (k0_chk2 c w) (k0_chk2.dec c w))).down
  let w0 : Elt F .i32 ← smemLoad tM (Rect.unit (s := S4) ![0] S1.size inb_S4_S1_0) numel1_S1 rfl
  let w1 : Elt F .i32 ← smemLoad tM (Rect.unit (s := S4) ![1] S1.size inb_S4_S1_1) numel1_S1 rfl
  let w2 : Elt F .i32 ← smemLoad tM (Rect.unit (s := S4) ![2] S1.size inb_S4_S1_2) numel1_S1 rfl
  let w3 : Elt F .i32 ← smemLoad tM (Rect.unit (s := S4) ![3] S1.size inb_S4_S1_3) numel1_S1 rfl
  have hw1 : k0_chk1 c w0 w1 w2 w3 := (← Prog.lift (TpuEff.assume (k0_chk1 c w0 w1 w2 w3) (k0_chk1.dec c w0 w1 w2 w3))).down
  semSignalWord (⟨k0_dev1 c w0 w1 w2 w3, k0_dev1_lt c w0 w1 w2 w3 hw1⟩ : Dev nD) barS 1#32
  semSignalWord (⟨k0_dev2 c, k0_dev2_lt c⟩ : Dev nD) barS 1#32
  semSignalWord (⟨k0_dev3 c, k0_dev3_lt c⟩ : Dev nD) barS 1#32
  semWaitWord barS 3#32
  play c w hw order

set_option maxRecDepth 65536 in
set_option maxHeartbeats 4000000 in
theorem body_eq : cc0_body tM (Memref.isWhole_whole _) xM (Memref.isWhole_whole _) oM (Memref.isWhole_whole _)
    cc0_scratch0 cc0_scratch1 cc0_scratch2 cc0_scratch3 cc0_scratch4 cc0_scratch5 cc0_scratch6 cc0_scratch7 = flat (F := F) := by
  rw [cc0_body_eq_skeleton]
  rfl

end Cert.KernelIdeal.Route

end
-- ==== Proof.Ideal.Schedule.lean ====
/-
# The protocol: who waits, who pays, and what each landing hands over

Write `X d` for the block of device `d` and `fin c` for what `c`'s result must hold: the rows of quarter `j` of the block of
the sender of `own c j`. Every device `c` runs four lanes of eight chunks of thirty-two rows each:

* `z`: `X c`'s own quarter goes to `dest c`;
* `x`, `y`: the quarter that `c` received goes on to `px c` and to `py c`;
* `f`: the quarter received from `py c` goes on to `px c`.

Cells of device `c`, every one used for a single round:

* the barrier, 3 units: one unit each from `dest c`, `px c` and `py c`, the devices `c` copies to. Each hands over the rows of
  its result that `c`'s copies write, at their first contents;
* the send semaphore of chunk `k` of a lane, the chunk's bytes: paid by the copy itself, gives the rows read back to `c`. The lanes
  `x` and `y` read the same rows at the same time: each holds half a share;
* the receive semaphore of chunk `k` of a lane, the chunk's bytes: paid by the copy of the device that copies here, gives
  `c` the rows written, at `fin c`.

Levels: the barrier 1, receipts along `z` 2, receipt `k` along `y` `3 + k`, receipts along `x` and of forwarded rows 20; what is waited
for lies below everything the waiting device still has to send.
-/
module

public import proofs.«01_k».proof.Proof.Ideal.Plan

@[expose] public section

noncomputable section

namespace Cert.KernelIdeal.Route

open Cert.KernelIdeal Cert.KernelIdeal.Gen Cert.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Chunks of rows -/

/-- The elements of chunk `k` of quarter `j`. -/
def chunk (j : Fin 4) (k : Fin 8) : Finset S1x1024x1024.Idx := Finset.univ.filter fun i => (i 1).val / 32 = 8 * j.val + k.val

theorem mem_chunk {j : Fin 4} {k : Fin 8} {i : S1x1024x1024.Idx} : i ∈ chunk j k ↔ (i 1).val / 32 = 8 * j.val + k.val := by
  simp [chunk]

theorem row_lt (i : S1x1024x1024.Idx) : (i 1).val < 1024 := (i 1).isLt

theorem chunk_disjoint (b b' : Fin 4 × Fin 8) (h : b ≠ b') : Disjoint (chunk b.1 b.2) (chunk b'.1 b'.2) := by
  refine Finset.disjoint_left.mpr fun i h₁ h₂ => h ?_
  have e₁ := mem_chunk.mp h₁; have e₂ := mem_chunk.mp h₂
  have k₁ := b.2.isLt; have k₂ := b'.2.isLt
  exact Prod.ext (Fin.ext (by omega)) (Fin.ext (by omega))

theorem chunk_cover : Finset.univ.biUnion (fun b : Fin 4 × Fin 8 => chunk b.1 b.2) = Finset.univ := by
  refine Finset.eq_univ_of_forall fun i => ?_
  have hi := row_lt i
  exact Finset.mem_biUnion.mpr ⟨(⟨(i 1).val / 256, by omega⟩, ⟨(i 1).val / 32 % 8, by omega⟩), Finset.mem_univ _,
    mem_chunk.mpr (by show _ = 8 * ((i 1).val / 256) + (i 1).val / 32 % 8; omega)⟩

/-- The first row of chunk `k` of quarter `j`. -/
def offR (j : Fin 4) (k : Fin 8) : Fin 3 → ℕ := ![0, 256 * j.val + 32 * k.val, 0]

theorem mem_unit_chunk (j : Fin 4) (k : Fin 8) (h : ∀ a, offR j k a + S1x32x1024.size a ≤ S1x1024x1024.size a) :
    (Rect.unit (s := S1x1024x1024) (offR j k) S1x32x1024.size h).set = chunk j k := by
  ext i
  rw [Rect.mem_set_unit, mem_chunk]
  have h0 : (i 0).val < 1 := (i 0).isLt
  have h2 : (i 2).val < 1024 := (i 2).isLt
  constructor
  · intro hi
    have h1 := hi 1
    have ha : offR j k 1 = 256 * j.val + 32 * k.val := rfl
    have hs : S1x32x1024.size 1 = 32 := rfl
    rw [ha, hs] at h1
    omega
  · intro hi a
    fin_cases a
    · show 0 ≤ (i 0).val ∧ (i 0).val < 0 + 1; omega
    · show 256 * j.val + 32 * k.val ≤ (i 1).val ∧ (i 1).val < 256 * j.val + 32 * k.val + 32; omega
    · show 0 ≤ (i 2).val ∧ (i 2).val < 0 + 1024; omega

/-! ## Receivers and quarters of the lanes -/

variable (σ : Equiv.Perm (Fin 4))

/-- The receiver of a lane's copies. -/
def tgt (c : Dev nD) : Lane → Dev nD | .z => dest σ c | .x => px c | .y => py c | .f => px c
/-- The quarter a lane's copies carry out of `c`. -/
def lq (c : Dev nD) : Lane → Fin 4 | .f => quart (py c) | _ => quart c
/-- The quarter a lane's copies carry to `c`. -/
def rq (c : Dev nD) : Lane → Fin 4 | .z => quart c | .x => quart (px c) | .y => quart (py c) | .f => quart (py (px c))

theorem rq_tgt (c : Dev nD) (l : Lane) : rq (tgt σ c l) l = lq c l := by
  cases l
  · exact quart_dest σ c
  · exact congrArg quart (px_px c)
  · exact congrArg quart (py_py c)
  · exact congrArg (fun d => quart (py d)) (px_px c)

theorem offW_eq : ∀ (c : Dev nD) (l : Lane) (k : Fin 8), offW c l k = offR (lq c l) k := by
  have h3 : ∀ (c : Dev nD) (k : Fin 8), k0_off3 c (BitVec.ofNat 32 (32 * k.val)) = offR (quart c) k := by decide +kernel
  have h4 : ∀ (c : Dev nD) (k : Fin 8), k0_off4 c (BitVec.ofNat 32 (32 * k.val)) = offR (quart (py c)) k := by decide +kernel
  intro c l k
  cases l
  · exact h3 c k
  · exact h3 c k
  · exact h3 c k
  · exact h4 c k
theorem offS_eq (c : Dev nD) (l : Lane) (k : Fin 8) : offS c l k = offR (lq c l) k := by
  have h2 : ∀ c : Dev nD, k0_off2 c = offR (quart c) 0 := by decide +kernel
  cases l
  · match k with
    | ⟨0, _⟩ => exact h2 c
    | ⟨n + 1, h⟩ => exact offW_eq c .z ⟨n + 1, h⟩
  · exact offW_eq c .x k
  · exact offW_eq c .y k
  · exact offW_eq c .f k

/-! ## Contents -/

variable (m : (ℓ : Loc nD τ sig) → Buf (Elt F) ℓ)

/-- The blocks at the start: of the argument and of the result. -/
abbrev X (d : Dev nD) : S1x1024x1024.Idx → Elt F .f32 := m ((d : Thread nD τ).loc main_arg0)
abbrev Y₀ (d : Dev nD) : S1x1024x1024.Idx → Elt F .f32 := m ((d : Thread nD τ).loc main_v1)

/-- The quarter an element lies in. -/
def qOf (i : S1x1024x1024.Idx) : Fin 4 := ⟨(i 1).val / 256, by have := row_lt i; omega⟩
theorem qOf_chunk {j : Fin 4} {k : Fin 8} {i : S1x1024x1024.Idx} (h : i ∈ chunk j k) : qOf i = j := by
  have := mem_chunk.mp h; have := k.isLt
  exact Fin.ext (by show (i 1).val / 256 = j.val; omega)

/-- What `c`'s result holds at the end. -/
def fin (c : Dev nD) : S1x1024x1024.Idx → Elt F .f32 := fun i => X m (origin σ (own c (qOf i))) i

theorem fin_px (c : Dev nD) : fin σ m (px c) = fin σ m c := by funext i; unfold fin; rw [own_px]
theorem fin_py (c : Dev nD) : fin σ m (py c) = fin σ m c := by funext i; unfold fin; rw [own_py]
theorem fin_dest (c : Dev nD) {k : Fin 8} {i : S1x1024x1024.Idx} (h : i ∈ chunk (quart c) k) : fin σ m (dest σ c) i = X m c i := by
  unfold fin; rw [qOf_chunk h, own_dest_quart, origin_dest]

/-- What a lane's copies read. -/
def srcV (c : Dev nD) : Lane → S1x1024x1024.Idx → Elt F .f32 | .z => X m c | _ => fin σ m c
theorem fin_tgt (c : Dev nD) (l : Lane) (k : Fin 8) (i : S1x1024x1024.Idx) (h : i ∈ chunk (lq c l) k) : srcV σ m c l i = fin σ m (tgt σ c l) i := by
  cases l
  · exact (fin_dest σ m c h).symm
  · exact (congrFun (fin_px σ m c) i).symm
  · exact (congrFun (fin_py σ m c) i).symm
  · exact (congrFun (fin_px σ m c) i).symm

/-! ## Cells -/

/-- The semaphores of a device: the barrier, and of each lane and chunk the sender's (`false`) and the receiver's (`true`). -/
abbrev Key : Type := Lane × Bool × Fin 8
def semL : Key → DmaSem sig
  | (l, false, k) => semOf (sendA l) k
  | (l, true, k) => semOf (recvA l) k
def loc : Option Key → SemLoc sig
  | none => .reg barS
  | some κ => .dma (semL κ)
/-- Which of them a semaphore is. -/
def what (q : DmaSem sig) : Option Key :=
  if q.val = 0 then none else some (![Lane.z, .x, .y, .f] ⟨(q.val - 1) / 16 % 4, Nat.mod_lt _ (by decide)⟩, decide ((q.val - 1) / 8 % 2 = 1), ⟨(q.val - 1) % 8, Nat.mod_lt _ (by decide)⟩)
def kind : SemLoc sig → Option (Option Key)
  | .reg s => if s = barS then some none else none
  | .dma q => (what q).map some
theorem kind_loc : ∀ o : Option Key, kind (loc o) = some o := by decide +kernel
theorem loc_injective : Function.Injective loc := fun a b h => by
  have := congrArg kind h; rw [kind_loc, kind_loc] at this; exact Option.some.inj this

abbrev cellAt (c : Dev nD) (o : Option Key) : GSem nD τ sig := ((c : Thread nD τ), loc o)

theorem cellAt_injective : Function.Injective (fun p : Dev nD × Option Key => cellAt p.1 p.2) := fun a b h => by
  have h1 : a.1 = b.1 := by have := congrArg (fun g : GSem nD τ sig => g.1.1) h; exact this
  have h2 : loc a.2 = loc b.2 := congrArg (fun g : GSem nD τ sig => g.2) h
  exact Prod.ext h1 (loc_injective h2)

/-- The bytes of a chunk. -/
abbrev N : ℕ := (rows oM (offR 0 0) (by decide)).view.dmaCredit
theorem N_pos : 0 < N := View.dmaCredit_pos _ (by decide)

/-! ## The payloads -/

/-- Chunk `k` of quarter `j` of the result, and of the argument. -/
def oPts (c : Dev nD) (j : Fin 4) (k : Fin 8) (q : PosShare TreeShare) (f : S1x1024x1024.Idx → Elt F .f32) : sProp 𝕄 :=
  ((c : Thread nD τ).loc main_v1) ↦[chunk j k]{q} f
def xPts (c : Dev nD) (j : Fin 4) (k : Fin 8) (f : S1x1024x1024.Idx → Elt F .f32) : sProp 𝕄 :=
  ((c : Thread nD τ).loc main_arg0) ↦[chunk j k]{fullShare} f

/-- The rows of the receiver's result that `c`'s copy `k` of a lane writes, at their first contents. -/
def there (c : Dev nD) (l : Lane) (k : Fin 8) : sProp 𝕄 := oPts (tgt σ c l) (lq c l) k fullShare (Y₀ m (tgt σ c l))

/-- What the send semaphore of a lane gives back. -/
def sent (c : Dev nD) : Lane → Fin 8 → sProp 𝕄
  | .z, k => xPts c (quart c) k (X m c)
  | .x, k => oPts c (quart c) k fullShare.left (fin σ m c)
  | .y, k => oPts c (quart c) k fullShare.right (fin σ m c)
  | .f, k => oPts c (quart (py c)) k fullShare (fin σ m c)
/-- What the receive semaphore of a lane gives. -/
def got (c : Dev nD) (l : Lane) (k : Fin 8) : sProp 𝕄 := oPts c (rq c l) k fullShare (fin σ m c)
def pay (c : Dev nD) : Key → sProp 𝕄
  | (l, false, k) => sent σ m c l k
  | (l, true, k) => got σ m c l k

/-- What the three units of the barrier give: from `dest c`, from `px c` and from `py c`. -/
def barPay (c : Dev nD) (d : Fin 3) : sProp 𝕄 :=
  if d = 0 then bigSep Finset.univ (there σ m c .z)
  else if d = 1 then iprop(bigSep Finset.univ (there σ m c .x) ∗ bigSep Finset.univ (there σ m c .f))
  else bigSep Finset.univ (there σ m c .y)

def payOf (c : Dev nD) (d : Fin 3) : Option (Option Key) → sProp 𝕄
  | none => iprop(emp)
  | some none => barPay σ m c d
  | some (some κ) => pay σ m c κ
def dutiesOf : Option (Option Key) → Finset (Fin 3)
  | none => ∅
  | some none => Finset.univ
  | some (some _) => {0}
def amountOf : Option (Option Key) → ℕ
  | some none => 1
  | _ => N

def Rd : Rounds.Schedule (GSem nD τ sig) (Fin 3) 𝕄 where
  duties g r := if r = 0 ∧ g.1.2 = .tc then dutiesOf (kind g.2) else ∅
  unitless _ := False
  amount g _ _ := amountOf (kind g.2)
  payload g _ d := payOf σ m g.1.1 d (kind g.2)
  amount_pos g _ _ _ := by
    show 0 < amountOf (kind g.2)
    match kind g.2 with
    | none => exact N_pos
    | some none => exact Nat.one_pos
    | some (some _) => exact N_pos

instance oPts_storable (c : Dev nD) (j k q) (f : S1x1024x1024.Idx → Elt F .f32) : BI.Storable (upEmb : UEmb _ 𝕄) (oPts c j k q f) := by
  unfold oPts; infer_instance
instance xPts_storable (c : Dev nD) (j k) (f : S1x1024x1024.Idx → Elt F .f32) : BI.Storable (upEmb : UEmb _ 𝕄) (xPts c j k f) := by
  unfold xPts; infer_instance
instance there_storable (c : Dev nD) (l k) : BI.Storable (upEmb : UEmb _ 𝕄) (there σ m c l k) := by unfold there; infer_instance
instance pay_storable (c : Dev nD) (κ : Key) : BI.Storable (upEmb : UEmb _ 𝕄) (pay σ m c κ) := by
  obtain ⟨l, b, k⟩ := κ
  cases b
  · cases l <;> (unfold pay sent; infer_instance)
  · unfold pay got; infer_instance
instance barPay_storable (c : Dev nD) (d) : BI.Storable (upEmb : UEmb _ 𝕄) (barPay σ m c d) := by
  unfold barPay; (repeat' split) <;> infer_instance
instance Rd_storable (g : GSem nD τ sig) (r : ℕ) (d : Fin 3) : BI.Storable (upEmb : UEmb _ 𝕄) ((Rd (F := F) σ m).payload g r d) := by
  show BI.Storable upEmb (payOf σ m g.1.1 d (kind g.2))
  match kind g.2 with
  | none => unfold payOf; infer_instance
  | some none => unfold payOf; infer_instance
  | some (some κ) => unfold payOf; infer_instance

section Sched
variable (c : Dev nD)

theorem duties_at (o : Option Key) : (Rd (F := F) σ m).duties (cellAt c o) 0 = dutiesOf (some o) := by
  dsimp only [Rd]; rw [kind_loc]; exact if_pos ⟨rfl, rfl⟩
theorem duties_later (g : GSem nD τ sig) : ∀ r, 1 ≤ r → (Rd (F := F) σ m).duties g r = ∅ :=
  fun r hr => if_neg fun h => by omega
theorem amount_at (o : Option Key) (r d) : (Rd (F := F) σ m).amount (cellAt c o) r d = amountOf (some o) := congrArg amountOf (kind_loc o)
theorem payload_at (o : Option Key) (r d) : (Rd (F := F) σ m).payload (cellAt c o) r d = payOf σ m c d (some o) := congrArg (payOf σ m c d) (kind_loc o)
theorem expect_bar : (Rd (F := F) σ m).expect (cellAt c none) 0 = 3 := by
  unfold Schedule.expect Schedule.amountOf
  rw [duties_at, Finset.sum_congr rfl fun d _ => amount_at σ m c none 0 d]; rfl
theorem expect_key (κ : Key) : (Rd (F := F) σ m).expect (cellAt c (some κ)) 0 = N := by
  unfold Schedule.expect Schedule.amountOf
  rw [duties_at]; exact (Finset.sum_singleton _ _).trans (amount_at σ m c (some κ) 0 0)
theorem rest_bar : bigSep ((Rd (F := F) σ m).duties (cellAt c none) 0 \ ∅) (fun d => (Rd (F := F) σ m).payload (cellAt c none) 0 d)
    = iprop(barPay σ m c 0 ∗ barPay σ m c 1 ∗ barPay σ m c 2) := by
  rw [Finset.sdiff_empty, duties_at, bigSep_congr fun d _ => payload_at σ m c none 0 d]
  show bigSep Finset.univ (fun d => barPay σ m c d) = _
  rw [bigSep_univ_eq_bigSepL [0, 1, 2] (by decide) (by decide), bigSepL_cons_cons, bigSepL_cons_cons, bigSepL_singleton]
  rfl
theorem rest_key (κ : Key) : bigSep ((Rd (F := F) σ m).duties (cellAt c (some κ)) 0 \ ∅) (fun d => (Rd (F := F) σ m).payload (cellAt c (some κ)) 0 d)
    = pay σ m c κ := by
  rw [Finset.sdiff_empty, duties_at, bigSep_congr fun d _ => payload_at σ m c (some κ) 0 d]
  exact bigSep_singleton

end Sched

/-! ## Levels -/

def L (g : GSem nD τ sig) : Finset Unit := if g.1.2 = .tc then {()} else ∅
def rank : Option (Option Key) → ℕ
  | some none => 1
  | some (some (.z, true, _)) => 2
  | some (some (.y, true, k)) => 3 + k.val
  | some (some (_, true, _)) => 20
  | _ => 0
def lv (g : GSem nD τ sig) (_ : Unit) : ℕ := rank (kind g.2)

theorem L_of_ne (g : GSem nD τ sig) (h : g.1.2 ≠ .tc) : L g = ∅ := if_neg h
theorem L_tc (c : Dev nD) (sm : SemLoc sig) : L ((c : Thread nD τ), sm) = {()} := if_pos rfl
theorem lv_at (c : Dev nD) (o : Option Key) : lv (cellAt c o) () = rank (some o) := congrArg rank (kind_loc o)

/-- What `c` still owes when a list of actions is left: of every copy in it the bytes at the receiver's semaphore. -/
def owe (c : Dev nD) : List (Act × Fin 8) → CellTallies nD τ sig Unit
  | [] => 0
  | (.send l, k) :: t => owe c t + tallyAt (cellAt (tgt σ c l) (some (l, true, k))) () N
  | (.recv _, _) :: t => owe c t
  | (.drain _, _) :: t => owe c t
/-- At the launch it owes the three units of the barriers as well. -/
def owe₀ (c : Dev nD) : CellTallies nD τ sig Unit :=
  owe σ c order + tallyAt (cellAt (py c) none) () 1 + tallyAt (cellAt (px c) none) () 1 + tallyAt (cellAt (origin σ c) none) () 1

theorem add_tally_pos {O : CellTallies nD τ sig Unit} {g g' : GSem nD τ sig} {n : ℕ} {u : Unit} (h : 0 < (O + tallyAt g' () n) g u) :
    0 < O g u ∨ g = g' := by
  rw [Pi.add_apply, Finsupp.add_apply, tallyAt_apply] at h
  by_contra hn; rw [not_or] at hn
  rw [if_neg (fun h' => hn.2 h'.1)] at h
  exact hn.1 (by simpa using h)

theorem owe_pos {c : Dev nD} {g : GSem nD τ sig} {u : Unit} : ∀ {t : List (Act × Fin 8)}, 0 < owe σ c t g u →
    ∃ l k, (Act.send l, k) ∈ t ∧ g = cellAt (tgt σ c l) (some (l, true, k))
  | [], h => absurd h (lt_irrefl 0)
  | (.send l, k) :: t, h => by
    rcases add_tally_pos h with h | h
    · obtain ⟨l', k', hm, he⟩ := owe_pos h; exact ⟨l', k', List.mem_cons_of_mem _ hm, he⟩
    · exact ⟨l, k, List.mem_cons_self, h⟩
  | (.recv _, _) :: t, h => by obtain ⟨l', k', hm, he⟩ := owe_pos (t := t) h; exact ⟨l', k', List.mem_cons_of_mem _ hm, he⟩
  | (.drain _, _) :: t, h => by obtain ⟨l', k', hm, he⟩ := owe_pos (t := t) h; exact ⟨l', k', List.mem_cons_of_mem _ hm, he⟩

/-- A cell may be waited on when every copy still to come has its receipt at a higher level. -/
theorem mayWait_owe (c : Dev nD) (sm : SemLoc sig) (t : List (Act × Fin 8))
    (h : ∀ l k, (Act.send l, k) ∈ t → rank (kind sm) < rank (some (some (l, true, k)))) :
    (levAts L lv : sProp 𝕄) ⊢ MayWait (c : Thread nD τ) sm () (owe σ c t) :=
  MayOwe.of_cut (L := L) (lev := lv) (rank (kind sm)) (fun p hp => by rw [Finset.mem_singleton.mp hp, L_tc]; exact Finset.mem_singleton_self _)
    (fun g u hg => by obtain ⟨l, k, -, rfl⟩ := owe_pos σ hg; exact Finset.mem_singleton_self _)
    (fun p hp => by rw [Finset.mem_singleton.mp hp]; exact le_refl _)
    (fun g u hg => by obtain ⟨l, k, hm, rfl⟩ := owe_pos σ hg; rw [lv_at]; exact h l k hm)

theorem owe₀_pos {c : Dev nD} {g : GSem nD τ sig} {u : Unit} (h : 0 < owe₀ σ c g u) :
    ∃ d o, g = cellAt d o ∧ 0 < rank (some o) := by
  rcases add_tally_pos h with h | h
  · rcases add_tally_pos h with h | h
    · rcases add_tally_pos h with h | h
      · obtain ⟨l, k, -, e⟩ := owe_pos σ h
        exact ⟨_, _, e, by cases l <;> simp [rank]⟩
      · exact ⟨_, none, h, Nat.one_pos⟩
    · exact ⟨_, none, h, Nat.one_pos⟩
  · exact ⟨_, none, h, Nat.one_pos⟩

/-- A staging semaphore may be waited on at the launch, and when nothing is owed. -/
theorem mayWait_stage (c : Dev nD) (q : DmaSem sig) (hq : rank (kind (.dma q)) = 0) (O : CellTallies nD τ sig Unit) (hO : O = owe₀ σ c ∨ O = 0) :
    (levAts L lv : sProp 𝕄) ⊢ MayWait (c : Thread nD τ) (.dma q) () O := by
  rcases hO with rfl | rfl
  · exact MayOwe.of_cut (L := L) (lev := lv) 0 (fun p hp => by rw [Finset.mem_singleton.mp hp, L_tc]; exact Finset.mem_singleton_self _)
      (fun g u hg => by obtain ⟨d, o, rfl, -⟩ := owe₀_pos σ hg; exact Finset.mem_singleton_self _)
      (fun p hp => by rw [Finset.mem_singleton.mp hp]; exact le_of_eq hq)
      (fun g u hg => by obtain ⟨d, o, rfl, h⟩ := owe₀_pos σ hg; rw [lv_at]; exact h)
  · rw [MayWait_zero]; iintro -; iempintro

end Cert.KernelIdeal.Route

end
-- ==== Proof.Ideal.Steps.lean ====
/-
# One action of the body

The rules for a copy, for a wait on a DMA semaphore, for a signal to a barrier and for the wait on the barrier, each in the terms of
the protocol: what the action takes and what it leaves.
-/
module

public import proofs.«01_k».proof.Proof.Ideal.Schedule

@[expose] public section

noncomputable section

namespace Cert.KernelIdeal.Route

open Cert.KernelIdeal Cert.KernelIdeal.Gen Cert.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (σ : Equiv.Perm (Fin 4)) (m : (ℓ : Loc nD τ sig) → Buf (Elt F) ℓ)

abbrev 𝒱₀ : Variants := Variants.none

/-! ## Chunks as the copies address them -/

theorem o_set (j : Fin 4) (k : Fin 8) (h) : (rows oM (offR j k) h).view.set = chunk j k :=
  (View.set_slice_whole main_v1 _).trans (mem_unit_chunk j k h)
theorem x_set (j : Fin 4) (k : Fin 8) (h) : (rows xM (offR j k) h).view.set = chunk j k :=
  (View.set_slice_whole main_arg0 _).trans (mem_unit_chunk j k h)

theorem oPts_rows (c : Dev nD) (j : Fin 4) (k : Fin 8) (h) (q : PosShare TreeShare) (f : S1x1024x1024.Idx → Elt F .f32) :
    oPts c j k q f = ((rows oM (offR j k) h).view.loc (c : Thread nD τ) ↦[(rows oM (offR j k) h).view.set]{q} f : sProp 𝕄) := by
  rw [o_set]; rfl
theorem xPts_rows (c : Dev nD) (j : Fin 4) (k : Fin 8) (h) (f : S1x1024x1024.Idx → Elt F .f32) :
    xPts c j k f = ((rows xM (offR j k) h).view.loc (c : Thread nD τ) ↦[(rows xM (offR j k) h).view.set]{fullShare} f : sProp 𝕄) := by
  rw [x_set]; rfl

/-- Rows written over are the rows read. -/
theorem landed (off : Fin 3 → ℕ) (h) (fd g : S1x1024x1024.Idx → Elt F .f32) (w : S1x32x1024.Idx → Elt F .f32)
    (hw : ∀ x, w x = g ((Rect.unit (s := S1x1024x1024) off S1x32x1024.size h).emb x))
    (i : S1x1024x1024.Idx) (hi : i ∈ (rows oM off h).view.set) :
    (rows oM off h).view.write (Elt F) fd w Finset.univ i = g i := by
  obtain ⟨x, -, rfl⟩ := Finset.mem_map.mp hi
  exact (View.write_emb_of_mem (v := (rows oM off h).view) fd w (Finset.mem_univ x)).trans (hw x)

/-! ## The world: every cell's invariant -/

section World

variable (K : Dev nD × Option Key → ℕ)

/-- Every cell of every device keeps to the schedule, in its first round. -/
def world : sProp 𝕄 :=
  bigSep Finset.univ fun p : Dev nD × Option Key => iprop(cellInv ER (Rd σ m) (K p) (cellAt p.1 p.2) ∗ reached ER (cellAt p.1 p.2) 0)

instance world_persistent : BI.Persistent (world (F := F) σ m K) := by unfold world; infer_instance

theorem world_at (c : Dev nD) (o : Option Key) :
    world (F := F) σ m K ⊢ iprop(cellInv ER (Rd σ m) (K (c, o)) (cellAt c o) ∗ reached ER (cellAt c o) 0) :=
  bigSep_elim (Φ := fun p : Dev nD × Option Key => iprop(cellInv ER (Rd σ m) (K p) (cellAt p.1 p.2) ∗ reached ER (cellAt p.1 p.2) 0)) (Finset.mem_univ (c, o))

/-! ## A copy -/

theorem wp_send_rows (c n : Dev nD) (l : Lane) (k : Fin 8) (hn : n = tgt σ c l)
    (M : Memref sig .tc .hbm S1x1024x1024 .f32) (off : Fin 3 → ℕ) (h) (hoff : off = offR (lq c l) k)
    {hsc : (rows oM off h : Memref sig (Dev.tc n : Thread nD τ).2.kind .hbm S1x32x1024 .f32).view.ref.isScScratch = false}
    {hsrc : (rows M off h).view.WordExact} {hdst : (rows oM off h).view.WordExact}
    {hsem : DmaTarget.Typed .hbm (.dma (semOf (recvA l) k)) (.remote (Dev.tc n : Thread nD τ) (rows oM off h) (.dma (semOf (sendA l) k)) hsc)}
    {q : PosShare TreeShare} (fs : Buf (Elt F) ((rows M off h).view.loc (c : Thread nD τ)))
    (hsent : ((rows M off h).view.loc (c : Thread nD τ) ↦[(rows M off h).view.set]{q} fs : sProp 𝕄) = sent σ m c l k)
    (hval : ∀ x, (rows M off h).view.read (Elt F) fs x = srcV σ m c l ((Rect.unit (s := S1x1024x1024) off S1x32x1024.size h).emb x))
    (t : List (Act × Fin 8)) (W : Waits sig Unit)
    {α : Type} {Q : α → sProp 𝕄} {kk : PUnit → Prog (TpuEff nD τ sig (Elt F) Λ₀ .tc) α} :
    iprop(world σ m K ∗ sent σ m c l k ∗ there σ m c l k ∗ owes (c : Thread nD τ) (owe σ c ((.send l, k) :: t)) W
        ∗ dutyTok ER (cellAt c (some (l, false, k))) 0 0 ∗ dutyTok ER (cellAt (tgt σ c l) (some (l, true, k))) 0 0)
      ⊢ iprop(((cred (tallyAt (cellAt c (some (l, false, k))) () N) ∗ owes (c : Thread nD τ) (owe σ c t) W)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (rows M off h) (.remote (Dev.tc n : Thread nD τ) (rows oM off h) (.dma (semOf (sendA l) k)) hsc)
                (.dma (semOf (recvA l) k)) hsrc hdst hsem) kk) Q) := by
  subst hn hoff
  have hp₁ : (Rd (F := F) σ m).payload (cellAt c (some (l, false, k))) 0 0 = sent σ m c l k := payload_at σ m c (some (l, false, k)) 0 0
  have hp₂ : (Rd (F := F) σ m).payload (cellAt (tgt σ c l) (some (l, true, k))) 0 0 = got σ m (tgt σ c l) l k :=
    payload_at σ m (tgt σ c l) (some (l, true, k)) 0 0
  have hd (d : Dev nD) (κ : Key) : (0 : Fin 3) ∈ (Rd (F := F) σ m).duties (cellAt d (some κ)) 0 := by
    rw [duties_at]; exact Finset.mem_singleton_self _
  refine BIBase.Entails.trans ?_ (Rounds.wp_send_pointsTo (Q := Q) (k := kk) 𝒱₀ ER (Rd σ m) (c : Thread nD τ) none (defs := defs₀ (F := F))
    (c' := (Dev.tc (tgt σ c l) : Thread nD τ)) (src := rows M (offR (lq c l) k) h) (dst := rows oM (offR (lq c l) k) h)
    (sS := .dma (semOf (sendA l) k)) (sem := .dma (semOf (recvA l) k)) (hsc := hsc) (hsrc := hsrc) (hdst := hdst) (hsem := hsem)
    (q := q) (fs := fs) (fd := Y₀ m (tgt σ c l)) (κ₁ := K (c, some (l, false, k))) (κ₂ := K (tgt σ c l, some (l, true, k)))
    (r₁ := 0) (r₂ := 0) (d₁ := 0) (d₂ := 0) (hd c (l, false, k)) (hd (tgt σ c l) (l, true, k)) () () N rfl
    (amount_at σ m c (some (l, false, k)) 0 0) (amount_at σ m (tgt σ c l) (some (l, true, k)) 0 0)
    (O₀ := owe σ c ((.send l, k) :: t)) (owe σ c t) rfl (W := W)
    (by rw [hsent]; exact Entails.of_eq hp₁.symm)
    (by
      refine BIBase.Entails.trans (Entails.of_eq ?_) (Entails.of_eq hp₂.symm)
      unfold got
      rw [rq_tgt, oPts_rows _ _ _ h]
      refine pointsTo_congr fun i hi => ?_
      refine landed _ h _ _ _ (fun x => (hval x).trans ?_) i hi
      refine fin_tgt σ m c l k _ ?_
      rw [← mem_unit_chunk (lq c l) k h, ← Rect.map_emb_univ]
      exact Finset.mem_map_of_mem _ (Finset.mem_univ _))
    (Es := Set.univ))
  iintro ⟨#HW, Hs, Ht, HO, Hd1, Hd2⟩
  ihave H1 := (world_at σ m K c (some (l, false, k))) $$ HW
  icases H1 with ⟨#HI1, #HR1⟩
  ihave H2 := (world_at σ m K (tgt σ c l) (some (l, true, k))) $$ HW
  icases H2 with ⟨#HI2, #HR2⟩
  ihave Hs' := (Entails.of_eq hsent.symm) $$ Hs
  ihave Ht' := (Entails.of_eq (show there σ m c l k = _ from oPts_rows (tgt σ c l) (lq c l) k h fullShare (Y₀ m (tgt σ c l)))) $$ Ht
  isplitr; · iexact HI1
  isplitr; · iexact HI2
  isplitl [Hs']; · iexact Hs'
  isplitl [Ht']; · iexact Ht'
  isplitl [HO]; · iexact HO
  isplitl [Hd1]; · iexact Hd1
  isplitr; · iexact HR1
  isplitl [Hd2]; · iexact Hd2
  iexact HR2

/-- The copy of a lane's chunk as the body starts it. -/
theorem wp_send_act (c : Dev nD) (w : BitVec 32) (hw : k0_chk2 c w) (l : Lane) (k : Fin 8) (hn : devTo c w hw l k = tgt σ c l)
    (t : List (Act × Fin 8)) (W : Waits sig Unit)
    {α : Type} {Q : α → sProp 𝕄} {kk : PUnit → Prog (TpuEff nD τ sig (Elt F) Λ₀ .tc) α} :
    iprop(world σ m K ∗ sent σ m c l k ∗ there σ m c l k ∗ owes (c : Thread nD τ) (owe σ c ((.send l, k) :: t)) W
        ∗ dutyTok ER (cellAt c (some (l, false, k))) 0 0 ∗ dutyTok ER (cellAt (tgt σ c l) (some (l, true, k))) 0 0)
      ⊢ iprop(((cred (tallyAt (cellAt c (some (l, false, k))) () N) ∗ owes (c : Thread nD τ) (owe σ c t) W)
            -∗ wp frame (wpE (defs₀ (F := F)) 𝒱₀ (c : Thread nD τ) none) Set.univ (kk ⟨⟩) Q)
          -∗ wp frame (wpE (defs₀ (F := F)) 𝒱₀ (c : Thread nD τ) none) Set.univ (.op (act c w hw (.send l, k)) kk) Q) := by
  have hoff := offS_eq c l k
  have hb := offS_inb c l k
  cases l
  case z =>
    exact wp_send_rows σ m K c _ .z k hn xM _ hb hoff (q := fullShare) (X m c)
      (by revert hb; rw [hoff]; intro hb; exact (xPts_rows c (quart c) k hb (X m c)).symm) (fun _ => rfl) t W
  case x =>
    exact wp_send_rows σ m K c _ .x k hn oM _ hb hoff (q := fullShare.left) (fin σ m c)
      (by revert hb; rw [hoff]; intro hb; exact (oPts_rows c (quart c) k hb _ (fin σ m c)).symm) (fun _ => rfl) t W
  case y =>
    exact wp_send_rows σ m K c _ .y k hn oM _ hb hoff (q := fullShare.right) (fin σ m c)
      (by revert hb; rw [hoff]; intro hb; exact (oPts_rows c (quart c) k hb _ (fin σ m c)).symm) (fun _ => rfl) t W
  case f =>
    exact wp_send_rows σ m K c _ .f k hn oM _ hb hoff (q := fullShare) (fin σ m c)
      (by revert hb; rw [hoff]; intro hb; exact (oPts_rows c (quart (py c)) k hb _ (fin σ m c)).symm) (fun _ => rfl) t W

/-! ## A wait on a DMA semaphore -/

/-- The act that waits on the send semaphore (`false`) or on the receive semaphore (`true`) of a lane. -/
def waitOn : Bool → Lane → Act | false, l => .drain l | true, l => .recv l

theorem wp_wait_dma (c : Dev nD) (κ : Key) {α : Type} {Q : α → sProp 𝕄} {kk : PUnit → Prog (TpuEff nD τ sig (Elt F) Λ₀ .tc) α}
    {s s' : Space} (M : Memref sig .tc s S1x32x1024 .f32) (M' : Memref sig .tc s' S1x32x1024 .f32) (hM : M'.view.dmaCredit = N)
    (h : M.view.WordExact) (h' : M'.view.WordExact)
    (O : CellTallies nD τ sig Unit) (W : Waits sig Unit) :
    iprop(world σ m K ∗ cred (tallyAt (cellAt c (some κ)) () N) ∗ owes (c : Thread nD τ) O W ∗ MayWait (c : Thread nD τ) (loc (some κ)) () O
        ∗ atPos ER (cellAt c (some κ)) 0 ∅ 0)
      ⊢ iprop(((semVal (cellAt c (some κ)) 0 ∗ pay σ m c κ ∗ owes (c : Thread nD τ) O (insert (loc (some κ), ()) W))
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (semL κ) M M' h h') kk) Q) := by
  iintro ⟨#HW, Hc, HO, Hm, Hat⟩ Hk
  ihave H1 := (world_at σ m K c (some κ)) $$ HW
  icases H1 with ⟨#HI, -⟩
  iapply (Rounds.wp_wait_rest_token 𝒱₀ ER (Rd σ m) (c : Thread nD τ) none (κ := K (c, some κ))
      (wpE_waitDma2_eq 𝒱₀ (c : Thread nD τ) none Set.univ) (Set.mem_univ _) () (O := O) (W := W) (R := 0) (m := 0) (T := ∅)
      (by rw [Nat.zero_add, hM]; exact (expect_key σ m c κ).symm)) $$ [Hc HO Hm Hat]
  · isplitr; · iexact HI
    isplitl [Hc]; · rw [hM]; iexact Hc
    isplitl [HO]; · iexact HO
    isplitl [Hm]; · iexact Hm
    iexact Hat
  iintro ⟨HO, Hat, -, Hp⟩
  imod (Rounds.cell_close ER (Rd σ m) (Set.mem_univ (K (c, some κ))) (fun h => h) (R := 0 + 1) (duties_later σ m (cellAt c (some κ)))) $$ [Hat] with Hz
  · isplitr; · iexact HI
    iexact Hat
  iapply Hk
  isplitl [Hz]; · iexact Hz
  isplitl [Hp]; · iapply (Entails.of_eq (rest_key σ m c κ)); iexact Hp
  iexact HO

theorem wp_wait_act (c : Dev nD) (w : BitVec 32) (hw : k0_chk2 c w) (b : Bool) (l : Lane) (k : Fin 8)
    {α : Type} {Q : α → sProp 𝕄} {kk : PUnit → Prog (TpuEff nD τ sig (Elt F) Λ₀ .tc) α}
    (O : CellTallies nD τ sig Unit) (W : Waits sig Unit) :
    iprop(world σ m K ∗ cred (tallyAt (cellAt c (some (l, b, k))) () N) ∗ owes (c : Thread nD τ) O W
        ∗ MayWait (c : Thread nD τ) (loc (some (l, b, k))) () O ∗ atPos ER (cellAt c (some (l, b, k))) 0 ∅ 0)
      ⊢ iprop(((semVal (cellAt c (some (l, b, k))) 0 ∗ pay σ m c (l, b, k) ∗ owes (c : Thread nD τ) O (insert (loc (some (l, b, k)), ()) W))
            -∗ wp frame (wpE (defs₀ (F := F)) 𝒱₀ (c : Thread nD τ) none) Set.univ (kk ⟨⟩) Q)
          -∗ wp frame (wpE (defs₀ (F := F)) 𝒱₀ (c : Thread nD τ) none) Set.univ (.op (act c w hw (waitOn b l, k)) kk) Q) := by
  cases b
  · exact wp_wait_dma σ m K c (l, false, k) (rows oM (offW c l k) (offW_inb c l k)) (rows (srcM l) (offW c l k) (offW_inb c l k)) (by cases l <;> rfl)
      (View.wordExact_bits rfl) (View.wordExact_bits rfl) O W
  · exact wp_wait_dma σ m K c (l, true, k) (rows (srcM l) (offW c l k) (offW_inb c l k)) (rows oM (offW c l k) (offW_inb c l k)) rfl
      (View.wordExact_bits rfl) (View.wordExact_bits rfl) O W

/-! ## The barrier -/

theorem wp_signal_bar (c n d : Dev nD) (hn : n = d) (p : Fin 3) (O : CellTallies nD τ sig Unit) (W : Waits sig Unit)
    {α : Type} {Q : α → sProp 𝕄} {kk : PUnit → Prog (TpuEff nD τ sig (Elt F) Λ₀ .tc) α} :
    iprop(world σ m K ∗ owes (c : Thread nD τ) (O + tallyAt (cellAt d none) () 1) W ∗ dutyTok ER (cellAt d none) 0 p ∗ barPay σ m d p)
      ⊢ iprop((owes (c : Thread nD τ) O W -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (Dev.tc n) barS (1#32 : BitVec 32).toInt) kk) Q) := by
  subst hn
  rw [show (1#32 : BitVec 32).toInt = ((1#32 : BitVec 32).toNat : Int) from rfl]
  iintro ⟨#HW, HO, Ht, Hp⟩ Hk
  ihave H1 := (world_at σ m K n none) $$ HW
  icases H1 with ⟨#HI, #HR⟩
  iapply (Rounds.wp_signal 𝒱₀ ER (Rd σ m) (c : Thread nD τ) none (dst := (n : Thread nD τ)) (κ := K (n, none)) (r := 0) (d := p)
      (show p ∈ (Rd (F := F) σ m).duties (cellAt n none) 0 by rw [duties_at]; exact Finset.mem_univ _)
      (show (Rd (F := F) σ m).amount (cellAt n none) 0 p = (1#32 : BitVec 32).toNat from amount_at σ m n none 0 p) ()
      (O₀ := O + tallyAt (cellAt n none) () 1) O rfl) $$ [HO Ht Hp]
  · isplitr; · iexact HI
    isplitl [HO]; · iexact HO
    isplitl [Ht]; · iexact Ht
    isplitl [Hp]; · iapply (show (barPay σ m n p : sProp 𝕄) ⊢ (Rd σ m).payload ((n : Thread nD τ), .reg barS) 0 p from Entails.of_eq (payload_at σ m n none 0 p).symm); iexact Hp
    iexact HR
  iexact Hk

theorem wp_wait_bar (c : Dev nD) (O : CellTallies nD τ sig Unit) (W : Waits sig Unit)
    {α : Type} {Q : α → sProp 𝕄} {kk : PUnit → Prog (TpuEff nD τ sig (Elt F) Λ₀ .tc) α} :
    iprop(world σ m K ∗ cred (tallyAt (cellAt c none) () 3) ∗ owes (c : Thread nD τ) O W ∗ MayWait (c : Thread nD τ) (.reg barS) () O
        ∗ atPos ER (cellAt c none) 0 ∅ 0)
      ⊢ iprop(((semVal (cellAt c none) 0 ∗ (barPay σ m c 0 ∗ barPay σ m c 1 ∗ barPay σ m c 2) ∗ owes (c : Thread nD τ) O (insert (SemLoc.reg barS, ()) W))
            -∗ wp frame (wpE (defs₀ (F := F)) 𝒱₀ (c : Thread nD τ) none) Set.univ (kk ⟨⟩) Q)
          -∗ wp frame (wpE (defs₀ (F := F)) 𝒱₀ (c : Thread nD τ) none) Set.univ (.op (.semWait barS (3#32 : BitVec 32).toInt) kk) Q) := by
  rw [show (3#32 : BitVec 32).toInt = ((3#32 : BitVec 32).toNat : Int) from rfl]
  iintro ⟨#HW, Hc, HO, Hm, Hat⟩ Hk
  ihave H1 := (world_at σ m K c none) $$ HW
  icases H1 with ⟨#HI, -⟩
  iapply (Rounds.wp_wait_rest_token 𝒱₀ ER (Rd σ m) (c : Thread nD τ) none (κ := K (c, none))
      (wpE_semWait_eq 𝒱₀ (c : Thread nD τ) none Set.univ) (Set.mem_univ _) () (O := O) (W := W) (R := 0) (m := 0) (T := ∅)
      (by rw [Nat.zero_add]; exact (expect_bar σ m c).symm)) $$ [Hc HO Hm Hat]
  · isplitr; · iexact HI
    isplitl [Hc]; · iexact Hc
    isplitl [HO]; · iexact HO
    isplitl [Hm]; · iexact Hm
    iexact Hat
  iintro ⟨HO, Hat, -, Hp⟩
  imod (Rounds.cell_close ER (Rd σ m) (Set.mem_univ (K (c, none))) (fun h => h) (R := 0 + 1) (duties_later σ m (cellAt c none))) $$ [Hat] with Hz
  · isplitr; · iexact HI
    iexact Hat
  iapply Hk
  isplitl [Hz]; · iexact Hz
  isplitl [Hp]; · iapply (Entails.of_eq (rest_bar σ m c)); iexact Hp
  iexact HO

end World

end Cert.KernelIdeal.Route

end
-- ==== Proof.Ideal.Chain.lean ====
/-
# The actions in order

What a device holds of a chunk after `n` of the chunk's twelve actions (`chunkSt`), each action as a step from `n` to `n + 1`, and by
induction along a list of actions that takes every chunk through its twelve in turn, waiting only below what is still to be
sent (`legal`), the run of the list. `order` is such a list.
-/
module

public import proofs.«01_k».proof.Proof.Ideal.Steps

@[expose] public section

noncomputable section

namespace Cert.KernelIdeal.Route

open Cert.KernelIdeal Cert.KernelIdeal.Gen Cert.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (σ : Equiv.Perm (Fin 4)) (m : (ℓ : Loc nD τ sig) → Buf (Elt F) ℓ)

/-! ## The twelve actions of a chunk -/

def seq : ℕ → Option Act
  | 0 => some (.send .z) | 1 => some (.recv .z) | 2 => some (.send .x) | 3 => some (.send .y) | 4 => some (.recv .y) | 5 => some (.send .f)
  | 6 => some (.recv .x) | 7 => some (.recv .f) | 8 => some (.drain .z) | 9 => some (.drain .x) | 10 => some (.drain .y) | 11 => some (.drain .f)
  | _ => none

/-- When a lane's copy is started, and when the wait on its send or its receive semaphore comes. -/
def sAt : Lane → ℕ | .z => 0 | .x => 2 | .y => 3 | .f => 5
def wAt : Bool → Lane → ℕ
  | true, .z => 1 | true, .y => 4 | true, .x => 6 | true, .f => 7
  | false, .z => 8 | false, .x => 9 | false, .y => 10 | false, .f => 11

theorem seq_send {n : ℕ} {l : Lane} (h : seq n = some (.send l)) : n = sAt l := by
  unfold seq at h
  split at h <;> first | (injection h with h; injection h with h; subst h; rfl) | (injection h with h; cases h) | cases h
theorem seq_wait {n : ℕ} {b : Bool} {l : Lane} (h : seq n = some (waitOn b l)) : n = wAt b l := by
  cases b <;> unfold waitOn at h <;> unfold seq at h <;>
    (split at h <;> first | (injection h with h; injection h with h; subst h; rfl) | (injection h with h; cases h) | cases h)

section Chunk

variable (c : Dev nD) (k : Fin 8)

/-- A copy's two duties and its send semaphore at the start. -/
def duties₂ (l : Lane) : sProp 𝕄 :=
  iprop(dutyTok ER (cellAt c (some (l, false, k))) 0 0 ∗ dutyTok ER (cellAt (tgt σ c l) (some (l, true, k))) 0 0
    ∗ atPos ER (cellAt c (some (l, false, k))) 0 ∅ 0)
/-- What is needed to wait on a semaphore whose bytes are certain to come. -/
def due (κ : Key) : sProp 𝕄 := iprop(cred (tallyAt (cellAt c (some κ)) () N) ∗ atPos ER (cellAt c (some κ)) 0 ∅ 0)
/-- A semaphore at rest. -/
def rest (κ : Key) : sProp 𝕄 := semVal (cellAt c (some κ)) 0

def sendSt (n : ℕ) (l : Lane) : sProp 𝕄 :=
  if n ≤ sAt l then iprop(duties₂ σ c k l ∗ there σ m c l k) else if n ≤ wAt false l then due c (l, false, k) else rest c (l, false, k)
def recvSt (n : ℕ) (l : Lane) : sProp 𝕄 := if n ≤ wAt true l then due c (l, true, k) else rest c (l, true, k)
/-- The rows in hand after `n` actions. -/
def held : ℕ → sProp 𝕄
  | 0 => sent σ m c .z k
  | 1 => iprop(emp)
  | 2 => iprop(emp ∗ got σ m c .z k)
  | 3 => sent σ m c .y k
  | 4 => iprop(emp)
  | 5 => iprop(emp ∗ got σ m c .y k)
  | 6 => iprop(emp)
  | 7 => iprop(emp ∗ got σ m c .x k)
  | 8 => iprop((emp ∗ got σ m c .x k) ∗ got σ m c .f k)
  | 9 => iprop(((emp ∗ got σ m c .x k) ∗ got σ m c .f k) ∗ sent σ m c .z k)
  | 10 => iprop((((emp ∗ got σ m c .x k) ∗ got σ m c .f k) ∗ sent σ m c .z k) ∗ sent σ m c .x k)
  | 11 => iprop(((((emp ∗ got σ m c .x k) ∗ got σ m c .f k) ∗ sent σ m c .z k) ∗ sent σ m c .x k) ∗ sent σ m c .y k)
  | _ => iprop((((((emp ∗ got σ m c .x k) ∗ got σ m c .f k) ∗ sent σ m c .z k) ∗ sent σ m c .x k) ∗ sent σ m c .y k) ∗ sent σ m c .f k)

/-- What `c` holds of chunk `k` after `n` of its actions. -/
def chunkSt (n : ℕ) : sProp 𝕄 :=
  iprop(bigSep Finset.univ (sendSt σ m c k n) ∗ bigSep Finset.univ (recvSt c k n) ∗ held σ m c k n)

/-- The rows a copy reads are in hand when it starts; of the rows received along the third axis the two copies that read them take half a
    share each. -/
theorem held_send (l : Lane) : held σ m c k (sAt l) ⊢ iprop(sent σ m c l k ∗ held σ m c k (sAt l + 1)) := by
  cases l
  · show sent σ m c .z k ⊢ iprop(sent σ m c .z k ∗ emp)
    iintro H; isplitl [H]; · iexact H
    iempintro
  · show iprop(emp ∗ got σ m c .z k) ⊢ iprop(sent σ m c .x k ∗ sent σ m c .y k)
    iintro ⟨-, H⟩
    iapply (show got σ m c .z k ⊢ iprop(sent σ m c .x k ∗ sent σ m c .y k) from
      (pointsTo_share (PosShare.mem_left_op_right fullShare)).1)
    iexact H
  · show sent σ m c .y k ⊢ iprop(sent σ m c .y k ∗ emp)
    iintro H; isplitl [H]; · iexact H
    iempintro
  · show iprop(emp ∗ got σ m c .y k) ⊢ iprop(sent σ m c .f k ∗ emp)
    iintro ⟨-, H⟩; isplitl [H]
    · iapply (Entails.of_eq (show got σ m c .y k = sent σ m c .f k from rfl)); iexact H
    iempintro

theorem held_wait (b : Bool) (l : Lane) : held σ m c k (wAt b l + 1) = iprop(held σ m c k (wAt b l) ∗ pay σ m c (l, b, k)) := by
  cases b <;> cases l <;> rfl

theorem sendSt_at (l : Lane) : sendSt σ m c k (sAt l) l = iprop(duties₂ σ c k l ∗ there σ m c l k) := if_pos (le_refl _)
theorem sendSt_after (l : Lane) : sendSt σ m c k (sAt l + 1) l = due c (l, false, k) := by cases l <;> rfl
theorem sendSt_off (l l' : Lane) (h : l' ≠ l) : sendSt σ m c k (sAt l + 1) l' = sendSt σ m c k (sAt l) l' := by
  cases l <;> cases l' <;> first | rfl | exact absurd rfl h
theorem recvSt_send (l : Lane) : recvSt (F := F) c k (sAt l + 1) = recvSt c k (sAt l) := by
  funext l'; cases l <;> cases l' <;> rfl

theorem step_send (n : ℕ) (l : Lane) (h : seq n = some (.send l)) :
    chunkSt σ m c k n ⊢ iprop((duties₂ σ c k l ∗ there σ m c l k) ∗ sent σ m c l k ∗ (due c (l, false, k) -∗ chunkSt σ m c k (n + 1))) := by
  obtain rfl := seq_send h
  unfold chunkSt
  rw [recvSt_send]
  iintro ⟨HS, HR, HH⟩
  ihave HS' := (bigSep_univ_update (Φ := sendSt σ m c k (sAt l)) (Ψ := sendSt σ m c k (sAt l + 1)) l (fun l' h' => sendSt_off σ m c k l l' h')) $$ HS
  icases HS' with ⟨Hl, HS⟩
  ihave HH' := (held_send σ m c k l) $$ HH
  icases HH' with ⟨Hs, HH⟩
  isplitl [Hl]; · iapply (Entails.of_eq (sendSt_at σ m c k l)); iexact Hl
  isplitl [Hs]; · iexact Hs
  iintro Hd
  isplitl [HS Hd]
  · iapply HS
    iapply (Entails.of_eq (sendSt_after σ m c k l).symm); iexact Hd
  isplitl [HR] <;> iassumption

/-- The semaphore a wait is on, before it and after it. -/
theorem drain_at (l : Lane) : sendSt σ m c k (wAt false l) l = due c (l, false, k) := by cases l <;> rfl
theorem drain_after (l : Lane) : sendSt σ m c k (wAt false l + 1) l = rest c (l, false, k) := by cases l <;> rfl
theorem drain_off (l l' : Lane) (h : l' ≠ l) : sendSt σ m c k (wAt false l + 1) l' = sendSt σ m c k (wAt false l) l' := by
  cases l <;> cases l' <;> first | rfl | exact absurd rfl h
theorem recvSt_drain (l : Lane) : recvSt (F := F) c k (wAt false l + 1) = recvSt c k (wAt false l) := by
  funext l'; cases l <;> cases l' <;> rfl
theorem recv_at (l : Lane) : recvSt (F := F) c k (wAt true l) l = due c (l, true, k) := if_pos (le_refl _)
theorem recv_after (l : Lane) : recvSt (F := F) c k (wAt true l + 1) l = rest c (l, true, k) := by cases l <;> rfl
theorem recv_off (l l' : Lane) (h : l' ≠ l) : recvSt (F := F) c k (wAt true l + 1) l' = recvSt c k (wAt true l) l' := by
  cases l <;> cases l' <;> first | rfl | exact absurd rfl h
theorem sendSt_recv (l : Lane) : sendSt σ m c k (wAt true l + 1) = sendSt σ m c k (wAt true l) := by
  funext l'; cases l <;> cases l' <;> rfl

theorem step_wait (n : ℕ) (b : Bool) (l : Lane) (h : seq n = some (waitOn b l)) :
    chunkSt σ m c k n ⊢ iprop(due c (l, b, k) ∗ ((rest c (l, b, k) ∗ pay σ m c (l, b, k)) -∗ chunkSt σ m c k (n + 1))) := by
  obtain rfl := seq_wait h
  unfold chunkSt
  rw [held_wait]
  cases b
  · rw [recvSt_drain]
    iintro ⟨HS, HR, HH⟩
    ihave HS' := (bigSep_univ_update (Φ := sendSt σ m c k (wAt false l)) (Ψ := sendSt σ m c k (wAt false l + 1)) l (fun l' h' => drain_off σ m c k l l' h')) $$ HS
    icases HS' with ⟨Hl, HS⟩
    isplitl [Hl]; · iapply (Entails.of_eq (drain_at σ m c k l)); iexact Hl
    iintro ⟨Hz, Hp⟩
    isplitl [HS Hz]
    · iapply HS
      iapply (Entails.of_eq (drain_after σ m c k l).symm); iexact Hz
    isplitl [HR]; · iexact HR
    isplitl [HH] <;> iassumption
  · rw [sendSt_recv]
    iintro ⟨HS, HR, HH⟩
    ihave HR' := (bigSep_univ_update (Φ := recvSt c k (wAt true l)) (Ψ := recvSt c k (wAt true l + 1)) l (fun l' h' => recv_off c k l l' h')) $$ HR
    icases HR' with ⟨Hl, HR⟩
    isplitl [Hl]; · iapply (Entails.of_eq (recv_at c k l)); iexact Hl
    iintro ⟨Hz, Hp⟩
    isplitl [HS]; · iexact HS
    isplitl [HR Hz]
    · iapply HR
      iapply (Entails.of_eq (recv_after c k l).symm); iexact Hz
    isplitl [HH] <;> iassumption

end Chunk

/-! ## Lists of actions -/

/-- Every copy in a list has its receipt above the semaphore `κ`. -/
def above (κ : Key) (t : List (Act × Fin 8)) : Bool :=
  t.all fun | (.send l, k) => decide (rank (some (some κ)) < rank (some (some (l, true, k)))) | _ => true
/-- What an action waits on lies below what is still to be sent. -/
def waitsBelow (t : List (Act × Fin 8)) : Act × Fin 8 → Bool
  | (.send _, _) => true
  | (.recv l, k) => above (l, true, k) t
  | (.drain l, k) => above (l, false, k) t
/-- A list that takes every chunk `k` on from its action `st k` to the end. -/
def legal (st : Fin 8 → ℕ) : List (Act × Fin 8) → Bool
  | [] => decide (∀ k, st k = 12)
  | s :: t => decide (seq (st s.2) = some s.1) && waitsBelow t s && legal (Function.update st s.2 (st s.2 + 1)) t

theorem legal_order : legal (fun _ => 0) order = true := by decide +kernel

theorem above_spec {κ : Key} {t : List (Act × Fin 8)} (h : above κ t = true) (l : Lane) (k : Fin 8) (hm : (Act.send l, k) ∈ t) :
    rank (kind (loc (some κ))) < rank (some (some (l, true, k))) := by
  rw [kind_loc]
  exact of_decide_eq_true (List.all_eq_true.mp h _ hm)

variable (K : Dev nD × Option Key → ℕ)

/-- The wait of a chunk's action, as a step of the run. -/
theorem play_wait (c : Dev nD) (w : BitVec 32) (hw : k0_chk2 c w) (st : Fin 8 → ℕ) (b : Bool) (l : Lane) (k : Fin 8) (t : List (Act × Fin 8))
    (hs : seq (st k) = some (waitOn b l)) (ha : above (l, b, k) t = true) (W : Waits sig Unit)
    {Q : PUnit → sProp 𝕄} :
    iprop(world σ m K ∗ levAts L lv ∗ (bigSep Finset.univ fun j => chunkSt σ m c j (st j)) ∗ owes (c : Thread nD τ) (owe σ c t) W)
      ⊢ iprop((∀ W', ((bigSep Finset.univ fun j => chunkSt σ m c j (Function.update st k (st k + 1) j)) ∗ owes (c : Thread nD τ) (owe σ c t) W')
            -∗ wp frame (wpE (defs₀ (F := F)) 𝒱₀ (c : Thread nD τ) none) Set.univ (play c w hw t) Q)
        -∗ wp frame (wpE (defs₀ (F := F)) 𝒱₀ (c : Thread nD τ) none) Set.univ (.op (act c w hw (waitOn b l, k)) fun _ => play c w hw t) Q) := by
  iintro ⟨#HW, #HL, HC, HO⟩ Hk
  ihave HC' := (bigSep_univ_turn (α := fun _ : Fin 8 => ℕ) (fun j n => chunkSt σ m c j n) st k) $$ HC
  icases HC' with ⟨Hc, HC⟩
  ihave Hc' := (step_wait σ m c k (st k) b l hs) $$ Hc
  unfold due rest
  icases Hc' with ⟨⟨Hcr, Hat⟩, Hc⟩
  iapply (wp_wait_act σ m K c w hw b l k (owe σ c t) W) $$ [Hcr Hat HO]
  · isplitr; · iexact HW
    isplitl [Hcr]; · iexact Hcr
    isplitl [HO]; · iexact HO
    isplitr
    · iapply (mayWait_owe σ c (loc (some (l, b, k))) t (fun l' k' hm => above_spec ha l' k' hm)); iexact HL
    iexact Hat
  iintro ⟨Hz, Hp, HO⟩
  iapply Hk $$ %(insert (loc (some (l, b, k)), ()) W)
  isplitr [HO]
  · iapply HC
    iapply Hc
    isplitl [Hz]; · iexact Hz
    iexact Hp
  iexact HO

theorem play_wp (c : Dev nD) (w : BitVec 32) (hw : k0_chk2 c w) (hdev : ∀ l k, devTo c w hw l k = tgt σ c l) {Q : PUnit → sProp 𝕄} :
    ∀ (t : List (Act × Fin 8)) (st : Fin 8 → ℕ) (W : Waits sig Unit), legal st t = true →
      iprop(world σ m K ∗ levAts L lv ∗ (bigSep Finset.univ fun j => chunkSt σ m c j (st j)) ∗ owes (c : Thread nD τ) (owe σ c t) W)
        ⊢ iprop((∀ W', ((bigSep Finset.univ fun j => chunkSt σ m c j 12) ∗ owes (c : Thread nD τ) 0 W') -∗ Q ⟨⟩)
          -∗ wp frame (wpE (defs₀ (F := F)) 𝒱₀ (c : Thread nD τ) none) Set.univ (play c w hw t) Q)
  | [], st, W, hl => by
    have hst : ∀ k, st k = 12 := of_decide_eq_true hl
    obtain rfl : st = fun _ => 12 := funext hst
    unfold play
    rw [wp_ret]
    iintro ⟨-, -, HC, HO⟩ Hk
    imodintro
    iapply Hk $$ %W
    isplitl [HC]; · iexact HC
    iexact HO
  | (a, k) :: t, st, W, hl => by
    simp only [legal, Bool.and_eq_true] at hl
    obtain ⟨⟨hs, hc⟩, hl⟩ := hl
    have hs := of_decide_eq_true hs
    cases a with
    | send l =>
      iintro ⟨#HW, #HL, HC, HO⟩ Hk
      unfold play
      ihave HC' := (bigSep_univ_turn (α := fun _ : Fin 8 => ℕ) (fun j n => chunkSt σ m c j n) st k) $$ HC
      icases HC' with ⟨Hc, HC⟩
      ihave Hc' := (step_send σ m c k (st k) l hs) $$ Hc
      unfold duties₂ due
      icases Hc' with ⟨⟨⟨Hd1, Hd2, Hat⟩, Ht⟩, Hs, Hc⟩
      iapply (wp_send_act σ m K c w hw l k (hdev l k) t W) $$ [Hd1 Hd2 Ht Hs HO]
      · isplitr; · iexact HW
        isplitl [Hs]; · iexact Hs
        isplitl [Ht]; · iexact Ht
        isplitl [HO]; · iexact HO
        isplitl [Hd1] <;> iassumption
      iintro ⟨Hcr, HO⟩
      iapply (play_wp c w hw hdev t (Function.update st k (st k + 1)) W hl) $$ [HC Hc Hcr Hat HO]
      · isplitr; · iexact HW
        isplitr; · iexact HL
        isplitr [HO]
        · iapply HC
          iapply Hc
          isplitl [Hcr] <;> iassumption
        iexact HO
      iexact Hk
    | recv l =>
      iintro ⟨#HW, #HL, HC, HO⟩ Hk
      unfold play
      iapply (play_wait σ m K c w hw st true l k t hs hc W) $$ [HC HO]
      · isplitr; · iexact HW
        isplitr; · iexact HL
        isplitl [HC]; · iexact HC
        iexact HO
      iintro %W' ⟨HC, HO⟩
      iapply (play_wp c w hw hdev t (Function.update st k (st k + 1)) W' hl) $$ [HC HO]
      · isplitr; · iexact HW
        isplitr; · iexact HL
        isplitl [HC] <;> iassumption
      iexact Hk
    | drain l =>
      iintro ⟨#HW, #HL, HC, HO⟩ Hk
      unfold play
      iapply (play_wait σ m K c w hw st false l k t hs hc W) $$ [HC HO]
      · isplitr; · iexact HW
        isplitr; · iexact HL
        isplitl [HC]; · iexact HC
        iexact HO
      iintro %W' ⟨HC, HO⟩
      iapply (play_wp c w hw hdev t (Function.update st k (st k + 1)) W' hl) $$ [HC HO]
      · isplitr; · iexact HW
        isplitr; · iexact HL
        isplitl [HC] <;> iassumption
      iexact Hk

end Cert.KernelIdeal.Route

end
-- ==== Proof.Ideal.Body.lean ====
/-
# The body of a device

From what a device holds at the launch (`start`) to what it holds at the end (`Φ₁`): it reads the table, gives the rows of its result that
others write to the devices that write them, takes the rows it writes from its three barrier units, runs the actions, and
puts the thirty-two chunks of its result together again, at `fin`.
-/
module

public import proofs.«01_k».proof.Proof.Ideal.Chain

@[expose] public section

noncomputable section

namespace Cert.KernelIdeal.Route

open Cert.KernelIdeal Cert.KernelIdeal.Gen Cert.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (σ : Equiv.Perm (Fin 4)) (m : (ℓ : Loc nD τ sig) → Buf (Elt F) ℓ)

/-! ## Conjunctions over lanes, semaphores and quarters -/

theorem bigSep_lane (Φ : Lane → sProp 𝕄) : bigSep Finset.univ Φ = iprop(Φ .z ∗ Φ .x ∗ Φ .y ∗ Φ .f) := by
  rw [bigSep_univ_eq_bigSepL [Lane.z, .x, .y, .f] (by decide) (by decide), bigSepL_cons_cons, bigSepL_cons_cons, bigSepL_cons_cons, bigSepL_singleton]
  rfl

theorem bigSep_bool (Φ : Bool → sProp 𝕄) : bigSep Finset.univ Φ = iprop(Φ false ∗ Φ true) := by
  rw [bigSep_univ_eq_bigSepL [false, true] (by decide) (by decide), bigSepL_cons_cons, bigSepL_singleton]
  rfl

theorem bigSep_key (Φ : Key → sProp 𝕄) : bigSep Finset.univ Φ
    = iprop((bigSep Finset.univ fun k : Fin 8 => bigSep Finset.univ fun l : Lane => Φ (l, false, k))
        ∗ bigSep Finset.univ fun k : Fin 8 => bigSep Finset.univ fun l : Lane => Φ (l, true, k)) := by
  rw [bigSep_univ_prod, bigSep_congr (s := Finset.univ) fun (l : Lane) _ =>
    (bigSep_univ_prod (fun bk : Bool × Fin 8 => Φ (l, bk))).trans (bigSep_bool _), bigSep_sep',
    bigSep_univ_comm (fun (l : Lane) (k : Fin 8) => Φ (l, false, k)), bigSep_univ_comm (fun (l : Lane) (k : Fin 8) => Φ (l, true, k))]

theorem bigSep_quart (c : Dev nD) (Φ : Fin 4 → sProp 𝕄) : bigSep Finset.univ Φ
    = iprop(Φ (quart c) ∗ Φ (quart (px c)) ∗ Φ (quart (py c)) ∗ Φ (quart (py (px c)))) := by
  rw [bigSep_univ_equiv (quartsE c) Φ, bigSep_univ_eq_bigSepL [0, 1, 2, 3] (by decide) (by decide), bigSepL_cons_cons, bigSepL_cons_cons,
    bigSepL_cons_cons, bigSepL_singleton]
  rfl

/-- Quarter `j` of the result, and of the argument, chunk by chunk. -/
def oQ (c : Dev nD) (f : S1x1024x1024.Idx → Elt F .f32) (j : Fin 4) : sProp 𝕄 := bigSep Finset.univ fun k => oPts c j k fullShare f
def xQ (c : Dev nD) (f : S1x1024x1024.Idx → Elt F .f32) (j : Fin 4) : sProp 𝕄 := bigSep Finset.univ fun k => xPts c j k f

theorem o_split (c : Dev nD) (f : S1x1024x1024.Idx → Elt F .f32) : ((((c : Thread nD τ).loc main_v1) ↦{fullShare} f : sProp 𝕄))
    = iprop(oQ c f (quart c) ∗ oQ c f (quart (px c)) ∗ oQ c f (quart (py c)) ∗ oQ c f (quart (py (px c)))) := by
  rw [← bigSep_quart c (oQ c f)]
  unfold oQ oPts
  exact (Ring.pointsTo_blocks (ℓ := (c : Thread nD τ).loc main_v1) (fun b : Fin 4 × Fin 8 => chunk b.1 b.2) chunk_disjoint chunk_cover f).trans
    (bigSep_univ_prod _)
theorem x_split (c : Dev nD) (f : S1x1024x1024.Idx → Elt F .f32) : ((((c : Thread nD τ).loc main_arg0) ↦{fullShare} f : sProp 𝕄))
    = iprop(xQ c f (quart c) ∗ xQ c f (quart (px c)) ∗ xQ c f (quart (py c)) ∗ xQ c f (quart (py (px c)))) := by
  rw [← bigSep_quart c (xQ c f)]
  unfold xQ xPts
  exact (Ring.pointsTo_blocks (ℓ := (c : Thread nD τ).loc main_arg0) (fun b : Fin 4 × Fin 8 => chunk b.1 b.2) chunk_disjoint chunk_cover f).trans
    (bigSep_univ_prod _)

/-! ## The rows given away at the barriers -/

theorem give_origin (c : Dev nD) : barPay σ m (origin σ c) 0 = oQ c (Y₀ m c) (quart c) := by
  unfold barPay oQ; rw [if_pos rfl]
  refine bigSep_congr fun k _ => ?_
  show oPts (dest σ (origin σ c)) (quart (origin σ c)) k fullShare (Y₀ m (dest σ (origin σ c))) = _
  rw [dest_origin, show quart (origin σ c) = quart c from quart_atZ _ _]
theorem give_px (c : Dev nD) : barPay σ m (px c) 1 = iprop(oQ c (Y₀ m c) (quart (px c)) ∗ oQ c (Y₀ m c) (quart (py (px c)))) := by
  unfold barPay oQ; rw [if_neg (by decide), if_pos rfl]
  congr 1
  all_goals
    refine bigSep_congr fun k _ => ?_
    show oPts (px (px c)) _ k fullShare (Y₀ m (px (px c))) = _
    rw [px_px]; rfl
theorem give_py (c : Dev nD) : barPay σ m (py c) 2 = oQ c (Y₀ m c) (quart (py c)) := by
  unfold barPay oQ; rw [if_neg (by decide), if_neg (by decide)]
  refine bigSep_congr fun k _ => ?_
  show oPts (py (py c)) (quart (py c)) k fullShare (Y₀ m (py (py c))) = _
  rw [py_py]

/-! ## Into the chunks and out of them -/

theorem enter (c : Dev nD) :
    iprop((bigSep Finset.univ fun k : Fin 8 => bigSep Finset.univ fun l : Lane => duties₂ σ c k l)
        ∗ (barPay σ m c 0 ∗ barPay σ m c 1 ∗ barPay σ m c 2)
        ∗ (bigSep Finset.univ fun k : Fin 8 => bigSep Finset.univ fun l : Lane => due c (l, true, k)) ∗ xQ c (X m c) (quart c))
      ⊢ (bigSep Finset.univ fun k => chunkSt σ m c k 0 : sProp 𝕄) := by
  have h (k : Fin 8) : chunkSt σ m c k 0 = iprop(((bigSep Finset.univ fun l : Lane => duties₂ σ c k l) ∗ (bigSep Finset.univ fun l : Lane => there σ m c l k))
      ∗ (bigSep Finset.univ fun l : Lane => due c (l, true, k)) ∗ xPts c (quart c) k (X m c)) := by
    rw [← bigSep_sep']; rfl
  rw [bigSep_congr (s := Finset.univ) fun k _ => h k, bigSep_sep', bigSep_sep', bigSep_sep',
    bigSep_univ_comm (fun (k : Fin 8) (l : Lane) => there σ m c l k), bigSep_lane]
  unfold barPay xQ
  rw [if_pos rfl, if_neg (by decide), if_pos rfl, if_neg (by decide), if_neg (by decide)]
  iintro ⟨HD, ⟨Hz, ⟨Hx, Hf⟩, Hy⟩, HR, HX⟩
  isplitl [HD Hz Hx Hf Hy]
  · isplitl [HD]; · iexact HD
    isplitl [Hz]; · iexact Hz
    isplitl [Hx]; · iexact Hx
    isplitl [Hy]; · iexact Hy
    iexact Hf
  isplitl [HR]; · iexact HR
  iexact HX

theorem halves_join (c : Dev nD) (k : Fin 8) : iprop(sent σ m c .x k ∗ sent σ m c .y k) ⊢ oPts c (quart c) k fullShare (fin σ m c) :=
  (pointsTo_share (PosShare.mem_left_op_right fullShare)).2

theorem leave (c : Dev nD) :
    (bigSep Finset.univ fun k => chunkSt σ m c k 12 : sProp 𝕄)
      ⊢ iprop((bigSep Finset.univ fun κ : Key => rest c κ) ∗ xQ c (X m c) (quart c) ∗ (((c : Thread nD τ).loc main_v1) ↦{fullShare} fin σ m c)) := by
  have h (k : Fin 8) : chunkSt σ m c k 12 ⊢ iprop((bigSep Finset.univ fun l : Lane => rest c (l, false, k))
      ∗ (bigSep Finset.univ fun l : Lane => rest c (l, true, k)) ∗ xPts c (quart c) k (X m c)
      ∗ oPts c (quart c) k fullShare (fin σ m c) ∗ oPts c (quart (px c)) k fullShare (fin σ m c)
      ∗ oPts c (quart (py c)) k fullShare (fin σ m c) ∗ oPts c (quart (py (px c))) k fullShare (fin σ m c)) := by
    have hs : sendSt σ m c k 12 = fun l => rest c (l, false, k) := by funext l; cases l <;> rfl
    have hr : recvSt (F := F) c k 12 = fun l => rest c (l, true, k) := by funext l; cases l <;> rfl
    unfold chunkSt
    rw [hs, hr]
    iintro ⟨HS, HR, HH⟩
    isplitl [HS]; · iexact HS
    isplitl [HR]; · iexact HR
    ihave HH' := (show held σ m c k 12 ⊢ iprop((((((emp ∗ got σ m c .x k) ∗ got σ m c .f k) ∗ sent σ m c .z k) ∗ sent σ m c .x k) ∗ sent σ m c .y k) ∗ sent σ m c .f k)
      from Entails.of_eq rfl) $$ HH
    icases HH' with ⟨⟨⟨⟨⟨⟨-, Hgx⟩, Hgf⟩, Hsz⟩, Hsx⟩, Hsy⟩, Hsf⟩
    isplitl [Hsz]
    · iapply (show sent σ m c .z k ⊢ xPts c (quart c) k (X m c) from Entails.of_eq rfl); iexact Hsz
    isplitl [Hsx Hsy]
    · iapply (halves_join σ m c k); isplitl [Hsx] <;> iassumption
    isplitl [Hgx]
    · iapply (show got σ m c .x k ⊢ oPts c (quart (px c)) k fullShare (fin σ m c) from Entails.of_eq rfl); iexact Hgx
    isplitl [Hsf]
    · iapply (show sent σ m c .f k ⊢ oPts c (quart (py c)) k fullShare (fin σ m c) from Entails.of_eq rfl); iexact Hsf
    iapply (show got σ m c .f k ⊢ oPts c (quart (py (px c))) k fullShare (fin σ m c) from Entails.of_eq rfl); iexact Hgf
  refine BIBase.Entails.trans (bigSep_mono fun k _ => h k) ?_
  rw [bigSep_key, o_split, bigSep_sep', bigSep_sep', bigSep_sep', bigSep_sep', bigSep_sep', bigSep_sep']
  unfold oQ xQ
  iintro ⟨H1, H2, H3, H4⟩
  isplitl [H1 H2]
  · isplitl [H1] <;> iassumption
  isplitl [H3]; · iexact H3
  iexact H4

/-! ## The table -/

/-- Every device's table is the permutation `σ`. -/
def PreOK : Prop := ∀ (c : Dev nD) (i : S4.Idx), (m ((c : Thread nD τ).loc main_arg1) : S4.Idx → BitVec 32) i = word σ (i 0)

/-- The table as staged. -/
def tstg (c : Dev nD) : (cc0_stg0_0 : Ref sig .tc).ty.Contents (Elt F) :=
  (win0_0.blk (0 : Fin 1)).view.read (Elt F) (m ((c : Thread nD τ).loc main_arg1))

/-- A word of the staged table, as the body reads it. -/
abbrev wordOf (off : Fin 1 → ℕ) (h : ∀ a, off a + S1.size a ≤ S4.size a) (ts : (cc0_stg0_0 : Ref sig .tc).ty.Contents (Elt F)) : BitVec 32 :=
  ((Memref.whole cc0_stg0_0).access (Rect.unit (s := S4) off S1.size h) : View sig .tc _ _ _).read (Elt F) ts (Shape.Idx.first (s := S1) (numel1_S1.symm ▸ Nat.one_pos))

variable {σ m} in
theorem PreOK.word (hpre : PreOK σ m) (c : Dev nD) (z : Fin 4) (off : Fin 1 → ℕ) (h) (hz : off 0 = z.val) :
    wordOf off h (tstg m c) = word σ z := by
  refine (show wordOf off h (tstg m c) = (m ((c : Thread nD τ).loc main_arg1) : S4.Idx → BitVec 32) _ from rfl).trans ((hpre c _).trans (congrArg (Mesh.word σ) (Fin.ext ?_)))
  show 0 + 1 * (off 0 + 1 * 0) = z.val
  omega

theorem devTo_eq (c : Dev nD) (w : BitVec 32) (hw : k0_chk2 c w) (h : w = word σ (zOf c)) (l : Lane) (k : Fin 8) : devTo c w hw l k = tgt σ c l := by
  subst h
  cases l
  · exact devZ_eq c (σ (zOf c)) k
  · exact devX_eq c k
  · exact devY_eq c k
  · exact devF_eq c k

theorem dev1_eq (c : Dev nD) (w0 w1 w2 w3 : BitVec 32) (hw : k0_chk1 c w0 w1 w2 w3) (h0 : w0 = word σ 0) (h1 : w1 = word σ 1) (h2 : w2 = word σ 2)
    (h3 : w3 = word σ 3) : (⟨k0_dev1 c w0 w1 w2 w3, k0_dev1_lt c w0 w1 w2 w3 hw⟩ : Dev nD) = origin σ c := by
  subst h0 h1 h2 h3
  exact Fin.ext (dev1_word σ c)

/-! ## The pipeline's data -/

/-- What `c` holds at the launch besides the invariants and its two blocks: its positions, the tokens of the duties it pays, and the
    credit for what it receives. -/
def core (c : Dev nD) : sProp 𝕄 :=
  iprop((atPos ER (cellAt c none) 0 ∅ 0 ∗ cred (tallyAt (cellAt c none) () 3))
    ∗ (dutyTok ER (cellAt (origin σ c) none) 0 0 ∗ dutyTok ER (cellAt (px c) none) 0 1 ∗ dutyTok ER (cellAt (py c) none) 0 2)
    ∗ (bigSep Finset.univ fun k : Fin 8 => bigSep Finset.univ fun l : Lane => duties₂ σ c k l)
    ∗ (bigSep Finset.univ fun k : Fin 8 => bigSep Finset.univ fun l : Lane => due c (l, true, k)))

def start (c : Dev nD) : sProp 𝕄 :=
  iprop((∃ K, world σ m K) ∗ levAts L lv ∗ core σ c ∗ (((c : Thread nD τ).loc main_arg0) ↦{fullShare} X m c) ∗ (((c : Thread nD τ).loc main_v1) ↦{fullShare} Y₀ m c))

def Φ₁ (c : Dev nD) : sProp 𝕄 :=
  iprop((bigSep Finset.univ fun κ : Key => rest c κ) ∗ semVal (cellAt c none) 0
    ∗ (((c : Thread nD τ).loc main_arg0) ↦{fullShare} X m c) ∗ (((c : Thread nD τ).loc main_v1) ↦{fullShare} fin σ m c))

def dats (_ : Fin 1) (c : Dev nD) : Dat τ (Elt F) Unit ℕ UU ℕ cfg0 c where
  A w := m ((cfg0.win w).arr.view.loc (c : Thread nD τ))
  after w _ := match w with
    | ⟨0, _⟩ => tstg m c
  Φ t := match t with
    | ⟨0, _⟩ => start σ m c
    | ⟨_ + 1, _⟩ => Φ₁ σ m c
  q _ := fullShare
  owed t := match t with
    | ⟨0, _⟩ => owe₀ σ c
    | ⟨_ + 1, _⟩ => 0

theorem bigSep_W (Φ : Fin cfg0.W → sProp 𝕄) : bigSep Finset.univ Φ = Φ (0 : Fin 1) := bigSep_W0 Φ
theorem fetch_0 (t : Fin cfg0.N) : (cfg0.win (0 : Fin 1)).fetch t = true := by rw [show t = t0_0 from fin_N0 t]; rfl

theorem owns_whole_eq (c : Dev nD) (b : Ref sig .tc) (Z : b.ty.Contents (Elt F)) :
    (owns (Ix := Unit) (Name := ℕ) (U := UU) (Lvl := ℕ) (c : Thread nD τ) (Memref.whole b) fullShare Z : sProp 𝕄)
      = iprop(∃ f : Buf (Elt F) (((c : Dev nD) : Thread nD τ).loc b), ⌜f = Z⌝ ∗ (((c : Thread nD τ).loc b) ↦{fullShare} f)) := by
  unfold owns; simp only [Memref.view_whole, View.read_whole, View.set_whole]

abbrev stg (c : Dev nD) (b : Ref sig .tc) (Z : b.ty.Contents (Elt F)) : sProp 𝕄 :=
  iprop(∃ f : Buf (Elt F) (((c : Dev nD) : Thread nD τ).loc b), ⌜f = Z⌝ ∗ (((c : Thread nD τ).loc b) ↦{fullShare} f))

abbrev tStart : Fin cfg0.N := t0_0

def bodyPre (c : Dev nD) : sProp 𝕄 :=
  iprop(start σ m c ∗ (dats σ m 0 c).owesAt () tStart.castSucc ∗ (∃ d, stg c cc0_stg0_0 ((dats σ m 0 c).before (0 : Fin 1) tStart d)))
def bodyPost (c : Dev nD) : sProp 𝕄 :=
  iprop(Φ₁ σ m c ∗ (dats σ m 0 c).owesAt () tStart.succ ∗ stg c cc0_stg0_0 (tstg m c))

theorem mayWait_bar (c : Dev nD) : (levAts L lv : sProp 𝕄) ⊢ MayWait (c : Thread nD τ) (.reg barS) () (owe σ c order) :=
  mayWait_owe σ c (.reg barS) order fun l k _ => by
    rw [show kind (.reg barS) = some none from kind_loc none]
    cases l <;> simp [rank] <;> omega

set_option maxHeartbeats 4000000 in
theorem sound_body (hpre : PreOK σ m) (c : Dev nD) (Kt : PUnit → sProp 𝕄) :
    iprop(bodyPre σ m c ∗ (bodyPost σ m c -∗ Kt ⟨⟩))
      ⊢ wp frame (wpE (defs₀ (F := F)) 𝒱₀ (c : Thread nD τ) none) Set.univ
          (cc0_body tM (Memref.isWhole_whole _) xM (Memref.isWhole_whole _) oM (Memref.isWhole_whole _)
            cc0_scratch0 cc0_scratch1 cc0_scratch2 cc0_scratch3 cc0_scratch4 cc0_scratch5 cc0_scratch6 cc0_scratch7) Kt := by
  rw [body_eq]
  unfold flat
  simp only [semSignalWord, semWaitWord, smemLoad, smemLoadElt, Prog.lift, Prog.bind_op, Prog.bind_ret, Prog.pure_eq_ret, Prog.bind_assoc, wp_deviceId]
  unfold bodyPre start core
  iintro ⟨⟨⟨⟨%K, #HW⟩, #HL, ⟨⟨HaB, HcB⟩, ⟨HtO, HtX, HtY⟩, HD, HR⟩, HX, HY⟩, Ho, ⟨%d0, %g0, %hg0, Ht⟩⟩, Hk⟩
  have ht : g0 = tstg m c := by rw [hg0]; unfold Dat.before; rw [if_pos (fetch_0 tStart)]; rfl
  subst ht
  unfold Dat.owesAt Pipeline.owesWithin
  icases Ho with ⟨%W, %hW, HO⟩
  rw [show (dats σ m 0 c).owed tStart.castSucc = owe₀ σ c from rfl]
  have hz : wordOf (k0_off1 c) (k0_off1_inb c) (tstg m c) = word σ (zOf c) := hpre.word c (zOf c) _ _ (by rw [k0_off1_eq]; rfl)
  have hw0 := hpre.word c 0 ![0] inb_S4_S1_0 rfl
  have hw1 := hpre.word c 1 ![1] inb_S4_S1_1 rfl
  have hw2 := hpre.word c 2 ![2] inb_S4_S1_2 rfl
  have hw3 := hpre.word c 3 ![3] inb_S4_S1_3 rfl
  have hc2 : k0_chk2 c (wordOf (k0_off1 c) (k0_off1_inb c) (tstg m c)) := by rw [hz]; exact chk2_word c (σ (zOf c))
  have hc1 : k0_chk1 c (wordOf ![0] inb_S4_S1_0 (tstg m c)) (wordOf ![1] inb_S4_S1_1 (tstg m c)) (wordOf ![2] inb_S4_S1_2 (tstg m c))
      (wordOf ![3] inb_S4_S1_3 (tstg m c)) := by rw [hw0, hw1, hw2, hw3]; exact chk1_word σ c
  -- the table's word for the receiver, and the four words that are searched for the sender
  iapply (wp_load_rect 𝒱₀ (c : Thread nD τ) none Set.univ (m := tM) (r := Rect.unit (s := S4) (k0_off1 c) S1.size (k0_off1_inb c)) (Finset.subset_univ _)) $$ Ht; iintro Ht
  simp only [wp_assume_of _ _ _ _ (d := k0_chk2.dec _ _) hc2]
  iapply (wp_load_rect 𝒱₀ (c : Thread nD τ) none Set.univ (m := tM) (r := Rect.unit (s := S4) ![0] S1.size inb_S4_S1_0) (Finset.subset_univ _)) $$ Ht; iintro Ht
  iapply (wp_load_rect 𝒱₀ (c : Thread nD τ) none Set.univ (m := tM) (r := Rect.unit (s := S4) ![1] S1.size inb_S4_S1_1) (Finset.subset_univ _)) $$ Ht; iintro Ht
  iapply (wp_load_rect 𝒱₀ (c : Thread nD τ) none Set.univ (m := tM) (r := Rect.unit (s := S4) ![2] S1.size inb_S4_S1_2) (Finset.subset_univ _)) $$ Ht; iintro Ht
  iapply (wp_load_rect 𝒱₀ (c : Thread nD τ) none Set.univ (m := tM) (r := Rect.unit (s := S4) ![3] S1.size inb_S4_S1_3) (Finset.subset_univ _)) $$ Ht; iintro Ht
  simp only [wp_assume_of _ _ _ _ (d := k0_chk1.dec _ _ _ _ _) hc1]
  -- the result's rows go to the devices that write them
  ihave HY' := (Entails.of_eq (o_split c (Y₀ m c))) $$ HY
  icases HY' with ⟨HY0, HYx, HYy, HYf⟩
  unfold owe₀
  iapply (wp_signal_bar σ m K c _ (origin σ c) (dev1_eq σ c _ _ _ _ hc1 hw0 hw1 hw2 hw3) 0
    (owe σ c order + tallyAt (cellAt (py c) none) () 1 + tallyAt (cellAt (px c) none) () 1) W) $$ [HO HtO HY0]
  · isplitr; · iexact HW
    isplitl [HO]; · iexact HO
    isplitl [HtO]; · iexact HtO
    iapply (Entails.of_eq (give_origin σ m c).symm); iexact HY0
  iintro HO
  iapply (wp_signal_bar σ m K c _ (px c) (dev2_eq c) 1 (owe σ c order + tallyAt (cellAt (py c) none) () 1) W) $$ [HO HtX HYx HYf]
  · isplitr; · iexact HW
    isplitl [HO]; · iexact HO
    isplitl [HtX]; · iexact HtX
    iapply (Entails.of_eq (give_px σ m c).symm)
    isplitl [HYx] <;> iassumption
  iintro HO
  iapply (wp_signal_bar σ m K c _ (py c) (dev3_eq c) 2 (owe σ c order) W) $$ [HO HtY HYy]
  · isplitr; · iexact HW
    isplitl [HO]; · iexact HO
    isplitl [HtY]; · iexact HtY
    iapply (Entails.of_eq (give_py σ m c).symm); iexact HYy
  iintro HO
  -- the rows this device writes
  iapply (wp_wait_bar σ m K c (owe σ c order) W) $$ [HcB HO HaB]
  · isplitr; · iexact HW
    isplitl [HcB]; · iexact HcB
    isplitl [HO]; · iexact HO
    isplitr; · iapply (mayWait_bar σ c); iexact HL
    iexact HaB
  iintro ⟨HzB, HP, HO⟩
  ihave HX' := (Entails.of_eq (x_split c (X m c))) $$ HX
  icases HX' with ⟨HX0, HXr⟩
  ihave HC := (enter σ m c) $$ [HD HP HR HX0]
  · isplitl [HD]; · iexact HD
    isplitl [HP]; · iexact HP
    isplitl [HR] <;> iassumption
  -- the actions
  iapply (play_wp σ m K c _ hc2 (devTo_eq σ c _ hc2 hz) order (fun _ => 0) (insert (SemLoc.reg barS, ()) W) legal_order) $$ [HC HO]
  · isplitr; · iexact HW
    isplitr; · iexact HL
    isplitl [HC]; · iexact HC
    iexact HO
  iintro %W' ⟨HC, HO⟩
  iapply Hk
  ihave HE := (leave σ m c) $$ HC
  icases HE with ⟨HZ, HX0, HF⟩
  unfold bodyPost Φ₁ Dat.owesAt Pipeline.owesWithin
  rw [show (dats σ m 0 c).owed tStart.succ = 0 from rfl]
  isplitr [HO Ht]
  · isplitl [HZ]; · iexact HZ
    isplitl [HzB]; · iexact HzB
    isplitr [HF]
    · iapply (Entails.of_eq (x_split c (X m c)).symm)
      isplitl [HX0] <;> iassumption
    iexact HF
  isplitl [HO]
  · iexists W'
    isplitr; · ipureintro; exact fun _ _ => Or.inl trivial
    iexact HO
  iexists _; isplitr; · (ipureintro; rfl)
  iexact Ht

set_option maxRecDepth 20000 in
theorem body_obligation (hpre : PreOK σ m) (c : Dev nD) : BodyObligation (dats (F := F) σ m 0 c) (defs₀ (F := F)) 𝒱₀ () Set.univ := fun t => by
  rw [show t = tStart from fin_N0 t]
  rw [bigSep_W, bigSep_W]
  simp only [owns_whole_eq]
  show bodyPre σ m c ⊢ wp frame (wpE (defs₀ (F := F)) 𝒱₀ (c : Thread nD τ) none) Set.univ
    (cc0_body tM (Memref.isWhole_whole _) xM (Memref.isWhole_whole _) oM (Memref.isWhole_whole _)
      cc0_scratch0 cc0_scratch1 cc0_scratch2 cc0_scratch3 cc0_scratch4 cc0_scratch5 cc0_scratch6 cc0_scratch7) (fun _ => bodyPost σ m c)
  iintro H
  iapply (sound_body σ m hpre c fun _ => bodyPost σ m c)
  isplitl [H]; · iexact H
  iintro H; iexact H

end Cert.KernelIdeal.Route

end
-- ==== Proof.Ideal.Launch.lean ====
/-
# The launch, and the run

Every device's semaphores become cells of the schedule, each token goes to the device that pays its duty, and every
device gets its credits: three units of its barrier and the bytes of each chunk it receives. The run ends with every
device's table and block as they were, its result at `fin`, and every semaphore at zero.
-/
module

public import proofs.«01_k».proof.Proof.Ideal.Body
public import Idealize.ShloMosaic.Lib.Pipeline.CollectiveSegs

@[expose] public section

noncomputable section

namespace Cert.KernelIdeal.Route

open Cert.KernelIdeal Cert.KernelIdeal.Gen Cert.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (σ : Equiv.Perm (Fin 4)) (m : (ℓ : Loc nD τ sig) → Buf (Elt F) ℓ) (ρ : Dev nD → PrngReg)

/-! ## The kernel's own semaphores -/

abbrev osem (κ : Key) : SemLoc sig := loc (some κ)

theorem ownSemFacts : Pipeline.OwnSemFacts cfg0.spec osem := by decide +kernel

theorem share_eq (c : Dev nD) (w : Fin cfg0.W) : (dats (F := F) σ m 0 c).share w = fullShare := by unfold Dat.share; split <;> rfl

theorem bigSep_opt (Φ : Option Key → sProp 𝕄) : bigSep Finset.univ Φ = iprop(Φ none ∗ bigSep Finset.univ fun κ : Key => Φ (some κ)) := by
  rw [bigSep_univ_equiv ((Equiv.optionEquivSumPUnit.{0} Key).trans (Equiv.sumComm _ _)).symm Φ, bigSep_univ_sum]
  exact congrArg (fun P => iprop(P ∗ _)) bigSep_singleton

theorem unscopedSems0_eq (c : Dev nD) : (unscopedSems0 c : sProp 𝕄) = semVal (cellAt c none) 0 := by
  unfold unscopedSems0; rw [bigSep_eq_bigSepL_of_eq [SemLoc.reg barS] (by decide +kernel) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun o : Option Key => semVal (cellAt c o) 0 : sProp 𝕄) := by
  rw [unscopedSems0_eq, bigSep_opt]
  unfold Pipeline.ownSems0
  iintro ⟨HS, HB⟩
  isplitl [HB]; · iexact HB
  iexact HS

/-! ## The cells and the tokens -/

def cells : Finset (GSem nD τ sig) := Finset.univ.map ⟨fun p : Dev nD × Option Key => cellAt p.1 p.2, cellAt_injective⟩

/-- The duties: the three of each barrier, and one of each copy's semaphore. -/
def tokOf : Dev nD × (Fin 3 ⊕ Key) → GSem nD τ sig × ℕ × Fin 3
  | (c, .inl d) => (cellAt c none, 0, d)
  | (c, .inr κ) => (cellAt c (some κ), 0, 0)
theorem tokOf_injective : Function.Injective tokOf := by
  rintro ⟨c, d | κ⟩ ⟨c', d' | κ'⟩ h
  all_goals
    have h1 := cellAt_injective (a₁ := (c, _)) (a₂ := (c', _)) (congrArg Prod.fst h)
    have h2 := congrArg (fun x => x.2.2) h
    simp_all [tokOf]
def tokens : Finset (GSem nD τ sig × ℕ × Fin 3) := Finset.univ.map ⟨tokOf, tokOf_injective⟩

def u₀ : UU := (initOf (Pipeline.cells cfgs cellOf_inj) (Pipeline.launchToks cfgs cellOf_inj), initOf cells tokens)

/-- The tokens of `c`'s own cells. -/
def toks (c : Dev nD) : sProp 𝕄 :=
  iprop((bigSep Finset.univ fun d : Fin 3 => dutyTok ER (cellAt c none) 0 d) ∗ bigSep Finset.univ fun κ : Key => dutyTok ER (cellAt c (some κ)) 0 0)
/-- What the launch deals `c`. -/
def G (c : Dev nD) : sProp 𝕄 :=
  iprop((bigSep Finset.univ fun o : Option Key => roundState ER (Rd σ m) (cellAt c o) 0)
    ∗ (bigSep Finset.univ fun o : Option Key => iprop(atPos ER (cellAt c o) 0 ∅ 0 ∗ reached ER (cellAt c o) 0)) ∗ toks c)

theorem fund_cells : BI.own (ER (initOf cells tokens)) ⊢ (|==> bigSep Finset.univ (G σ m) : sProp 𝕄) := by
  have hX (Φ : GSem nD τ sig → sProp 𝕄) : bigSep cells Φ = bigSep Finset.univ fun c : Dev nD => bigSep Finset.univ fun o : Option Key => Φ (cellAt c o) := by
    unfold cells; rw [bigSep_map, bigSep_univ_prod]; rfl
  have hT : bigSep tokens (fun x => (dutyTok ER x.1 x.2.1 x.2.2 : sProp 𝕄)) = bigSep Finset.univ fun c : Dev nD => toks c := by
    unfold tokens; rw [bigSep_map, bigSep_univ_prod]
    exact bigSep_congr fun c _ => by unfold toks; rw [bigSep_univ_sum]; rfl
  iintro HX
  imod (Rounds.fund ER (Rd σ m) cells tokens) $$ HX with ⟨Hst, Hr, Hat, Htok⟩
  imodintro
  ihave Hst' := (Entails.of_eq (hX fun g => roundState ER (Rd σ m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- `c`'s cells opened. -/
theorem core_alloc (c : Dev nD) :
    iprop(Pipeline.ownSems0 (Ix := Unit) (Name := ℕ) (U := UU) (Lvl := ℕ) (Val := Elt F) (τ := τ) osem c ∗ unscopedSems0 c ∗ G σ m c)
      ⊢ |={Set.univ}=> iprop((bigSep Finset.univ fun o : Option Key => iprop(∃ κ : ℕ, cellInv ER (Rd σ m) κ (cellAt c o)))
          ∗ (bigSep Finset.univ fun o : Option Key => iprop(atPos ER (cellAt c o) 0 ∅ 0 ∗ reached ER (cellAt c o) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun o : Option Key => semVal (cellAt c o) 0) ∗ bigSep Finset.univ fun o : Option Key => roundState ER (Rd σ m) (cellAt c o) 0)
      ⊢ (|={Set.univ}=> bigSep Finset.univ fun o : Option Key => iprop(∃ κ : ℕ, cellInv ER (Rd σ m) κ (cellAt c o)) : sProp 𝕄) from by
        rw [← bigSep_sep']
        exact (bigSep_mono fun o _ => (Rounds.body_intro ER (Rd σ m) (cellAt c o)).trans inv_alloc).trans (bigSep_fupd _ _)) $$ [Hv Hst] with Hinv
  · isplitl [Hv] <;> iassumption
  imodintro
  isplitl [Hinv]; · iexact Hinv
  isplitl [Hat]; · iexact Hat
  iexact Htok

/-! ## Tokens to their payers -/

def tgtE : Lane → Dev nD ≃ Dev nD
  | .z => destE σ
  | .y => pyE
  | _ => pxE
theorem tgtE_eq (c : Dev nD) (l : Lane) : tgtE σ l c = tgt σ c l := by cases l <;> rfl

/-- A conjunction over all devices, regrouped by the device that sends. -/
theorem around (Φ : Dev nD → Lane → Fin 8 → sProp 𝕄) :
    (bigSep Finset.univ fun c => bigSep Finset.univ fun k => bigSep Finset.univ fun l => Φ c l k)
      = bigSep Finset.univ fun c => bigSep Finset.univ fun k => bigSep Finset.univ fun l => Φ (tgt σ c l) l k := by
  rw [bigSep_univ_comm, bigSep_univ_comm (fun c k => bigSep Finset.univ fun l => Φ (tgt σ c l) l k)]
  refine bigSep_congr fun k _ => ?_
  rw [bigSep_univ_comm, bigSep_univ_comm (fun c l => Φ (tgt σ c l) l k)]
  refine bigSep_congr fun l _ => ?_
  rw [bigSep_univ_equiv (tgtE σ l)]
  exact bigSep_congr fun c _ => by rw [tgtE_eq]

/-- The tokens of the duties `c` pays. -/
def pays (c : Dev nD) : sProp 𝕄 :=
  iprop((dutyTok ER (cellAt (origin σ c) none) 0 0 ∗ dutyTok ER (cellAt (px c) none) 0 1 ∗ dutyTok ER (cellAt (py c) none) 0 2)
    ∗ (bigSep Finset.univ fun k : Fin 8 => bigSep Finset.univ fun l : Lane => dutyTok ER (cellAt c (some (l, false, k))) 0 0)
    ∗ (bigSep Finset.univ fun k : Fin 8 => bigSep Finset.univ fun l : Lane => dutyTok ER (cellAt (tgt σ c l) (some (l, true, k))) 0 0))

theorem bigSep_fin3 (Φ : Fin 3 → sProp 𝕄) : bigSep Finset.univ Φ = iprop(Φ 0 ∗ Φ 1 ∗ Φ 2) := bigSep_univ_eq_bigSepL [0, 1, 2] (by decide) (by decide) Φ

theorem toks_around : (bigSep Finset.univ fun c : Dev nD => (toks c : sProp 𝕄)) = bigSep Finset.univ fun c : Dev nD => pays σ c := by
  have h (c : Dev nD) : (toks c : sProp 𝕄) = iprop((dutyTok ER (cellAt c none) 0 0 ∗ dutyTok ER (cellAt c none) 0 1 ∗ dutyTok ER (cellAt c none) 0 2)
      ∗ (bigSep Finset.univ fun k : Fin 8 => bigSep Finset.univ fun l : Lane => dutyTok ER (cellAt c (some (l, false, k))) 0 0)
      ∗ (bigSep Finset.univ fun k : Fin 8 => bigSep Finset.univ fun l : Lane => dutyTok ER (cellAt c (some (l, true, k))) 0 0)) := by
    unfold toks; rw [bigSep_fin3, bigSep_key]
  rw [bigSep_congr (s := Finset.univ) fun c _ => h c]
  unfold pays
  simp only [bigSep_sep']
  rw [around σ (fun c l k => (dutyTok ER (cellAt c (some (l, true, k))) 0 0 : sProp 𝕄)),
    bigSep_univ_equiv (destE σ).symm (fun c : Dev nD => (dutyTok ER (cellAt c none) 0 0 : sProp 𝕄)),
    bigSep_univ_equiv pxE (fun c : Dev nD => (dutyTok ER (cellAt c none) 0 1 : sProp 𝕄)),
    bigSep_univ_equiv pyE (fun c : Dev nD => (dutyTok ER (cellAt c none) 0 2 : sProp 𝕄))]
  rfl

/-- What stays with `c`. -/
def linear (c : Dev nD) : sProp 𝕄 := iprop((bigSep Finset.univ fun o : Option Key => atPos ER (cellAt c o) 0 ∅ 0) ∗ pays σ c)
def G' (c : Dev nD) : sProp 𝕄 := iprop((∃ K, world σ m K) ∗ linear σ c)

theorem regroup :
    (bigSep Finset.univ fun c : Dev nD => iprop((bigSep Finset.univ fun o : Option Key => iprop(∃ κ : ℕ, cellInv ER (Rd σ m) κ (cellAt c o)))
          ∗ (bigSep Finset.univ fun o : Option Key => iprop(atPos ER (cellAt c o) 0 ∅ 0 ∗ reached ER (cellAt c o) 0)) ∗ toks c) : sProp 𝕄)
      ⊢ bigSep Finset.univ (G' σ m) := by
  rw [bigSep_sep', bigSep_sep', toks_around σ, ← bigSep_univ_prod (fun p : Dev nD × Option Key => iprop(∃ κ : ℕ, cellInv ER (Rd σ m) κ (cellAt p.1 p.2))),
    bigSep_congr (s := Finset.univ) (fun (c : Dev nD) _ => bigSep_sep' Finset.univ (fun o : Option Key => (atPos ER (cellAt c o) 0 ∅ 0 : sProp 𝕄)) (fun o => reached ER (cellAt c o) 0)),
    bigSep_sep', ← bigSep_univ_prod (fun p : Dev nD × Option Key => (reached ER (cellAt p.1 p.2) 0 : sProp 𝕄))]
  iintro ⟨HI, ⟨Hat, #HR⟩, Htok⟩
  ihave HK := (BI.bigSep_exists_pi Finset.univ (fun (p : Dev nD × Option Key) (κ : ℕ) => (cellInv ER (Rd σ m) κ (cellAt p.1 p.2) : sProp 𝕄))) $$ HI
  icases HK with ⟨%K, #HI⟩
  iapply (BI.bigSep_with_persistent (S := Finset.univ) (R := world σ m K) (Φ := linear σ) (Ψ := G' σ m) fun c _ => by
    unfold G'
    iintro ⟨#HW, HL⟩
    isplitr; · iexists K; iexact HW
    iexact HL)
  isplitr
  · unfold world; rw [bigSep_sep']
    isplitl; · iexact HI
    iexact HR
  · unfold linear; rw [bigSep_sep']
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ G σ m c) : sProp 𝕄)
    ⊢ |={Set.univ}=> bigSep Finset.univ (G' σ m) :=
  ((bigSep_mono fun c _ => core_alloc σ m c).trans (bigSep_fupd _ _)).trans (BI.fupd_mono (regroup σ m))

/-! ## The credits -/

theorem cell_eq_iff {c d : Dev nD} {o p : Option Key} : cellAt c o = cellAt d p ↔ c = d ∧ o = p :=
  ⟨fun h => Prod.mk.inj (cellAt_injective (a₁ := (c, o)) (a₂ := (d, p)) h), fun h => by rw [h.1, h.2]⟩

theorem tally_apply (c d : Dev nD) (o p : Option Key) (n : ℕ) :
    (tallyAt (cellAt d p) () n : CellTallies nD τ sig Unit) (cellAt c o) () = if c = d ∧ o = p then n else 0 := by
  rw [tallyAt_apply]
  exact if_congr ⟨fun h => cell_eq_iff.mp h.1, fun h => ⟨cell_eq_iff.mpr h, rfl⟩⟩ rfl rfl

theorem owe_bar (d c : Dev nD) : ∀ t, owe σ d t (cellAt c none) () = 0
  | [] => rfl
  | (.send l, k) :: t => by
    show (owe σ d t + tallyAt (cellAt (tgt σ d l) (some (l, true, k))) () N : CellTallies nD τ sig Unit) (cellAt c none) () = 0
    rw [Pi.add_apply, Finsupp.add_apply, owe_bar d c t, tally_apply, if_neg fun h => nomatch h.2]
  | (.recv _, _) :: t => owe_bar d c t
  | (.drain _, _) :: t => owe_bar d c t

/-- A list of actions owes a receive semaphore the bytes of the copies in it that go there. -/
theorem owe_recv (d c : Dev nD) (l : Lane) (k : Fin 8) : ∀ t, owe σ d t (cellAt c (some (l, true, k))) () = t.count (.send l, k) * if c = tgt σ d l then N else 0
  | [] => by rw [List.count_nil, Nat.zero_mul]; rfl
  | (.send l', k') :: t => by
    show (owe σ d t + tallyAt (cellAt (tgt σ d l') (some (l', true, k'))) () N : CellTallies nD τ sig Unit) (cellAt c (some (l, true, k))) () = _
    rw [Pi.add_apply, Finsupp.add_apply, owe_recv d c l k t, tally_apply c (tgt σ d l') (some (l, true, k)) (some (l', true, k')) N]
    by_cases h : (Act.send l', k') = (Act.send l, k)
    · cases h
      rw [List.count_cons_self, Nat.add_mul, Nat.one_mul]
      exact congrArg _ (if_congr (and_iff_left rfl) rfl rfl)
    · have h' : ¬ ((some (l, true, k) : Option Key) = some (l', true, k')) := fun e => h (by cases e; rfl)
      rw [if_neg (fun e : c = tgt σ d l' ∧ _ => h' e.2), List.count_cons_of_ne h, Nat.add_zero]
  | (.recv l', k') :: t => (owe_recv d c l k t).trans (by rw [List.count_cons_of_ne (by simp)])
  | (.drain l', k') :: t => (owe_recv d c l k t).trans (by rw [List.count_cons_of_ne (by simp)])

theorem sent_once : ∀ (l : Lane) (k : Fin 8), order.count (Act.send l, k) = 1 := by decide +kernel

theorem owe₀_bar (d c : Dev nD) : owe₀ σ d (cellAt c none) () = (if d = py c then 1 else 0) + (if d = px c then 1 else 0) + (if d = dest σ c then 1 else 0) := by
  unfold owe₀
  rw [Pi.add_apply, Finsupp.add_apply, Pi.add_apply, Finsupp.add_apply, Pi.add_apply, Finsupp.add_apply, owe_bar, tally_apply, tally_apply, tally_apply, Nat.zero_add]
  congr 1
  · congr 1
    · exact if_congr ⟨fun h => by rw [h.1, py_py], fun h => ⟨by rw [h, py_py], rfl⟩⟩ rfl rfl
    · exact if_congr ⟨fun h => by rw [h.1, px_px], fun h => ⟨by rw [h, px_px], rfl⟩⟩ rfl rfl
  · exact if_congr ⟨fun h => by rw [h.1, dest_origin], fun h => ⟨by rw [h, origin_dest], rfl⟩⟩ rfl rfl

theorem owe₀_recv (d c : Dev nD) (l : Lane) (k : Fin 8) : owe₀ σ d (cellAt c (some (l, true, k))) () = if d = (tgtE σ l).symm c then N else 0 := by
  unfold owe₀
  rw [Pi.add_apply, Finsupp.add_apply, Pi.add_apply, Finsupp.add_apply, Pi.add_apply, Finsupp.add_apply, owe_recv, sent_once, Nat.one_mul,
    tally_apply c (py d) (some (l, true, k)) none 1, tally_apply c (px d) (some (l, true, k)) none 1, tally_apply c (origin σ d) (some (l, true, k)) none 1,
    if_neg (nofun : ¬ (c = py d ∧ (some (l, true, k) : Option Key) = none)), if_neg (nofun : ¬ (c = px d ∧ (some (l, true, k) : Option Key) = none)),
    if_neg (nofun : ¬ (c = origin σ d ∧ (some (l, true, k) : Option Key) = none))]
  exact if_congr ⟨fun h => by rw [h, ← tgtE_eq, Equiv.symm_apply_apply], fun h => by rw [h, ← tgtE_eq, Equiv.apply_symm_apply]⟩ rfl rfl

theorem launch_bar (c : Dev nD) :
    tallyOn (cellAt c none) (launchCredit (Pipeline.owing (owe₀ σ)) 0 (cellAt c none)) = (tallyAt (cellAt c none) () 3 : CellTallies nD τ sig Unit) := by
  unfold tallyAt; refine congrArg _ (Finsupp.ext fun u => ?_); cases u
  rw [Pipeline.launchCredit_owing, Finsupp.single_eq_same, Finset.sum_congr rfl fun d _ => owe₀_bar σ d c, Finset.sum_add_distrib, Finset.sum_add_distrib,
    Finset.sum_ite_eq' Finset.univ (py c) fun _ => 1, Finset.sum_ite_eq' Finset.univ (px c) fun _ => 1, Finset.sum_ite_eq' Finset.univ (dest σ c) fun _ => 1,
    if_pos (Finset.mem_univ _), if_pos (Finset.mem_univ _), if_pos (Finset.mem_univ _)]

theorem launch_recv (c : Dev nD) (l : Lane) (k : Fin 8) :
    tallyOn (cellAt c (some (l, true, k))) (launchCredit (Pipeline.owing (owe₀ σ)) 0 (cellAt c (some (l, true, k))))
      = (tallyAt (cellAt c (some (l, true, k))) () N : CellTallies nD τ sig Unit) := by
  unfold tallyAt; refine congrArg _ (Finsupp.ext fun u => ?_); cases u
  rw [Pipeline.launchCredit_owing, Finsupp.single_eq_same, Finset.sum_congr rfl fun d _ => owe₀_recv σ d c l k,
    Finset.sum_ite_eq' Finset.univ ((tgtE σ l).symm c) fun _ => N, if_pos (Finset.mem_univ _)]

theorem creds (c : Dev nD) :
    (Pipeline.launchCred (owe₀ σ) c : sProp 𝕄) ⊢ iprop(cred (tallyAt (cellAt c none) () 3)
      ∗ bigSep Finset.univ fun k : Fin 8 => bigSep Finset.univ fun l : Lane => cred (tallyAt (cellAt c (some (l, true, k))) () N)) := by
  unfold Pipeline.launchCred
  refine BIBase.Entails.trans (BI.bigSep_subset (Finset.subset_univ ((Finset.univ : Finset (Option Key)).map ⟨loc, loc_injective⟩))) ?_
  rw [bigSep_map, bigSep_opt, bigSep_key]
  iintro ⟨HB, -, HR⟩
  isplitl [HB]
  · iapply (Entails.of_eq (congrArg (fun x => (cred x : sProp 𝕄)) (launch_bar σ c))); iexact HB
  · iapply (Entails.of_eq (show (bigSep Finset.univ fun k : Fin 8 => bigSep Finset.univ fun l : Lane =>
        (cred (tallyOn (cellAt c (some (l, true, k))) (launchCredit (Pipeline.owing (owe₀ σ)) 0 (cellAt c (some (l, true, k))))) : sProp 𝕄)) = _ from
      bigSep_congr fun k _ => bigSep_congr fun l _ => congrArg (fun x => (cred x : sProp 𝕄)) (launch_recv σ c l k)))
    iexact HR

/-! ## The run -/

theorem start_intro (c : Dev nD) :
    iprop(Pipeline.unscopedRestP Pipeline.Prefetch.none cfg0.spec c (fun b => m ((c : Thread nD τ).loc b)) ∗ levAts L lv
        ∗ Pipeline.launchCred (owe₀ σ) c ∗ prngReg c (ρ c) ∗ G' σ m c)
      ⊢ |={Set.univ}=> iprop(start σ m c ∗ emp) := by
  rw [Pipeline.unscopedRestP_none, show cfg0.spec = spec0 from rfl, unscopedRest0_eq]
  unfold G' linear pays start core duties₂ due
  rw [bigSep_opt, bigSep_key]
  simp only [bigSep_sep']
  iintro ⟨⟨HX, HY⟩, Hlev, Hcr, -, HW, ⟨HaB, HaS, HaR⟩, HtB, HtS, HtR⟩
  ihave Hc := (creds (F := F) σ c) $$ Hcr
  icases Hc with ⟨H3, HN⟩
  imodintro
  isplitl
  · isplitl [HW]; · iexact HW
    isplitl [Hlev]; · iexact Hlev
    isplitr [HX HY]
    · isplitl [HaB H3]
      · isplitl [HaB] <;> iassumption
      isplitl [HtB]; · iexact HtB
      isplitl [HtS HtR HaS]
      · isplitl [HtS]; · iexact HtS
        isplitl [HtR] <;> iassumption
      isplitl [HN] <;> iassumption
    isplitl [HX]; · iexact HX
    iexact HY
  · iempintro

theorem phi0_intro (c : Dev nD) :
    iprop(start σ m c ∗ Pipeline.prefHeld Pipeline.Prefetch.none c (fun _ => fullShare.right) (fun k => k.elim0) ∗ Pipeline.scopedRest cfg0.spec c)
      ⊢ (dats σ m 0 c).Φ 0 := by
  rw [show (dats σ m 0 c).Φ 0 = start σ m c from rfl]
  iintro ⟨Hs, -, -⟩; iexact Hs

/-- What a device has at the end that the pipeline does not hold. -/
def done (c : Dev nD) : sProp 𝕄 :=
  iprop(unscopedSems0 c ∗ (((c : Thread nD τ).loc main_arg0) ↦{fullShare} X m c) ∗ (((c : Thread nD τ).loc main_v1) ↦{fullShare} fin σ m c))

theorem phi1_exit (c : Dev nD) :
    (dats σ m 0 c).Φ (Fin.last cfg0.N) ⊢ iprop(done σ m c ∗ Pipeline.ownSems0 osem c ∗ Pipeline.scopedRest cfg0.spec c) := by
  rw [show (dats σ m 0 c).Φ (Fin.last cfg0.N) = Φ₁ σ m c from rfl, show cfg0.spec = spec0 from rfl, scopedRest0_eq]
  unfold Φ₁ done Pipeline.ownSems0 rest
  rw [unscopedSems0_eq]
  iintro ⟨HZ, HB, HX, HY⟩
  isplitl [HB HX HY]
  · isplitl [HB]; · iexact HB
    isplitl [HX] <;> iassumption
  isplitl [HZ]; · iexact HZ
  iempintro

theorem waits (c : Dev nD) : (levAts L lv : sProp 𝕄) ⊢ Pipeline.cellsWaits cfgs (dats σ m) () 0 c :=
  Pipeline.cellsWaits_intro cfgs (dats σ m) () 0 c fun w s t =>
    mayWait_stage σ c _ (by fin_cases w <;> fin_cases s <;> rfl) _ (by
      rcases t with ⟨_ | _, ht⟩
      · exact Or.inl rfl
      · exact Or.inr rfl)

/-- What the run ends in. -/
def Post : PUnit × MemSt nD τ sig (Elt F) → Prop := fun r =>
  (∀ c : Dev nD, r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_v1) = fin σ m c)
  ∧ r.2.sem = fun _ => 0

theorem done_read (c : Dev nD) (s' : Phys nD τ sig (Elt F)) : iprop(done σ m c ∗ emp ∗ SI s')
    ⊢ |={Set.univ}=> iprop(⌜(∀ sm : SemLoc sig, sm.isScoped .tc = false → s'.mem.sem ((c.tc : Thread nD τ), sm) = 0)
        ∧ s'.mem.mem ((c : Thread nD τ).loc main_arg0) = m ((c : Thread nD τ).loc main_arg0) ∧ s'.mem.mem ((c : Thread nD τ).loc main_v1) = fin σ m c⌝ ∗ (SI s' : sProp 𝕄)) := by
  unfold done
  iintro ⟨⟨Hu, HX, HY⟩, -, HSI⟩
  imod (Pipeline.unscopedSems0_read (X := unscopedSems0 c) (c := c) fupd_intro s') $$ [Hu HSI] with ⟨%h, HSI⟩
  · isplitl [Hu] <;> iassumption
  ihave Hp := (pointsTo_read_all (Finset.univ : Finset Unit) (fun _ => (c : Thread nD τ).loc main_arg0) (fun _ => X m c) s') $$ [HX HSI]
  · isplitl [HX]
    · iapply (Entails.of_eq (bigSep_singleton (i := ())).symm); iexact HX
    iexact HSI
  icases Hp with ⟨%hx, HSI⟩
  ihave Hp := (pointsTo_read_all (Finset.univ : Finset Unit) (fun _ => (c : Thread nD τ).loc main_v1) (fun _ => fin σ m c) s') $$ [HY HSI]
  · isplitl [HY]
    · iapply (Entails.of_eq (bigSep_singleton (i := ())).symm); iexact HY
    iexact HSI
  icases Hp with ⟨%hy, HSI⟩
  imodintro
  isplitr; · ipureintro; exact ⟨h, hx () (Finset.mem_univ _), hy () (Finset.mem_univ _)⟩
  iexact HSI

set_option maxRecDepth 20000 in
/-- From any memory whose tables are the permutation `σ`, with zero counters: every weakly fair execution of `main` ends, and ends in `Post`. -/
theorem run_main (hpre : PreOK σ m) : θ_run defs (onTc (τ := τ) (main (F := F))) ⟨m, fun _ => 0, ρ⟩ (Post σ m) :=
  Pipeline.θ_run_region_owing_glob_pf (fun p => (cfgs p).toPCfg) (fun p => (cfgs p).toPCfg_adm) (dats σ m) () cellOf_inj (0 : Fin 1)
    winFacts0.to₀ ownSemFacts (Pipeline.PreFacts.none _) EP defs₀ 𝒱₀ m ρ main
    (hmain := fun _ => rfl)
    (hbody := fun c => (body_obligation σ m hpre c).loose) (hne := fun w => by fin_cases w <;> exact Nat.succ_pos _) (harr := arr_whole0) (hstage := stage_whole0)
    (hshare := share_eq σ m) (hdistinct := winFacts0.arr_inj)
    (O₀ := owe₀ σ) (howed₀ := fun _ => rfl) (howedN := fun _ => rfl)
    (L := L) (lv := lv) (hL := L_of_ne) (hwaits := waits σ m)
    (G := G σ m) (G' := G' σ m) (u₀ := u₀)
    (hu₀ := by
      unfold u₀
      iintro Hu
      ihave H := (ownU_pair _ _) $$ Hu
      icases H with ⟨HP, HX⟩
      imod (fund_cells σ m) $$ HX with HG
      imodintro
      isplitl [HP] <;> iassumption)
    (hglob := glob σ m)
    (hA := fun _ _ => rfl) (hpf := fun _ k => k.elim0)
    (X := start σ m) (Y := done σ m) (Z := fun _ => iprop(emp))
    (hX := start_intro σ m ρ) (hin := phi0_intro σ m) (hout := phi1_exit σ m)
    (QY := fun c s => (∀ sm : SemLoc sig, sm.isScoped .tc = false → s.sem ((c.tc : Thread nD τ), sm) = 0)
      ∧ s.mem ((c : Thread nD τ).loc main_arg0) = m ((c : Thread nD τ).loc main_arg0) ∧ s.mem ((c : Thread nD τ).loc main_v1) = fin σ m c)
    (hY := done_read σ m)
    (hQ := fun s h hs => ⟨fun c => ⟨(h c).2.2.2.1, ((h c).1 (0 : Fin 1)).trans ((dats (F := F) σ m 0 c).arrAt_in (0 : Fin 1) rfl _), (h c).2.2.2.2⟩,
      sem_eq_zero hs fun c => (h c).2.2.1⟩)

end Cert.KernelIdeal.Route

end
-- ==== Proof.Ideal.Frame.lean ====
/-
# The run at a literal table, its values dropped

A launch whose every device holds the same four words, a permutation, ends with its arguments unchanged and every
semaphore at zero: `Route.run_main` at that permutation.
-/
module

public import proofs.«01_k».proof.Proof.Ideal.Launch
public import proofs.«01_k».proof.Proof.Table

@[expose] public section

noncomputable section

namespace Cert.KernelIdeal.Route

open Cert.KernelIdeal Cert.KernelIdeal.Gen Cert.Mesh
open Idealize.ShloMosaic Idealize.ShloMosaic.TcCoe Idealize.SL.Sem

variable {F : FTy → Type} [FloatOps F] {lit : Fin 4 → BitVec 32}

theorem frame (hl : Valid lit) (m : (ℓ : Loc nD τ sig) → Buf (Elt F) ℓ) (ρ : Dev nD → PrngReg)
    (h : ∀ c : Dev nD, cmpi .eq (m ((c : Thread nD τ).loc main_arg1) : IVec S4 32) (fun i => lit (S4.rowMajor i)) = fun _ => 1#1) :
    θ_run defs (onTc (τ := τ) (main (F := F))) ⟨m, fun _ => 0, ρ⟩ (fun r =>
      (∀ c : Dev nD, r.2.mem ((c : Thread nD τ).loc main_arg0) = m ((c : Thread nD τ).loc main_arg0)
        ∧ r.2.mem ((c : Thread nD τ).loc main_arg1) = m ((c : Thread nD τ).loc main_arg1)) ∧ r.2.sem = fun _ => 0) :=
  (θ_run defs _ _).mono (fun _ hr => ⟨fun c => ⟨(hr.1 c).1, (hr.1 c).2.1⟩, hr.2⟩)
    (run_main (permOf hl) m ρ fun c => table_of hl _ (h c))

end Cert.KernelIdeal.Route

end
-- ==== Proof.Value.lean ====
/-
# The reference's result, and the kernel's

The reference gathers the four blocks of its array by the order that sorts the table. Where the table is a permutation
`σ`, that order is `σ⁻¹` (`order_apply`), so block `z` of its result is block `σ⁻¹ z` of its argument (`gathered_apply`).
The kernel leaves on every device the block of the device that sends to it, whose third coordinate is `σ⁻¹` of its own:
`fin_eq` says the two are one.
-/
module

public import proofs.«01_k».proof.Proof.Ideal.Frame
public import proofs.«01_k».proof.Proof.Gen.ReferenceIdeal.Run
public import Idealize.ShloMosaic.Lib.SortFacts
public import Idealize.ShloMosaic.Lib.Layout

@[expose] public section

noncomputable section

namespace Cert.Gathered

open Cert.Mesh Cert.ReferenceIdeal Cert.ReferenceIdeal.Gen
open Idealize.ShloMosaic Idealize.ShloMosaic.TcCoe Idealize.SL.Sem

variable {F : FTy → Type} [FloatOps F]
variable (σ : Equiv.Perm (Fin 4))

/-- Words of numbers below four compare, as signed numbers, as the numbers do. -/
theorem slt_small : ∀ a b : Fin 4, (IntOp.cmpi .slt (BitVec.ofNat 32 a.val) (BitVec.ofNat 32 b.val) == 1#1) = decide (a < b) := by
  decide +kernel

/-- The order of the positions by the table's words. -/
theorem sorted_word :
    sortedFrom (fun k k' : Fin 4 => IntOp.cmpi .slt (word σ k) (word σ k') == 1#1) = σ.symm := by
  have h : (fun k k' : Fin 4 => IntOp.cmpi .slt (word σ k) (word σ k') == 1#1)
      = fun k k' => decide (σ.symm.symm k < σ.symm.symm k') := by
    funext k k'; exact slt_small (σ k) (σ k')
  funext k
  rw [h]
  unfold sortedFrom
  simp only [sortPositions_of_perm, List.get_eq_getElem, List.getElem_ofFn, Fin.val_cast, Fin.eta]

/-- The positions in the order that sorts the table: what the gather reads its blocks by. -/
abbrev order (A : IVec S4 32) : IVec S4 32 := (Host.sort2 S4 0 comparator_i32_i32_d0 A (iotaInDim S4 32 0)).2

/-- The reference's composed term. -/
abbrev gathered (x : FVec F S4x1024x1024 .f32) (A : IVec S4 32) : FVec F S4x1024x1024 .f32 :=
  Host.gather gather_S4x1024x1024_S4x1_S4x1024x1024_12_0_n_n_0_1_110241024 x (broadcastInDim S4x1 ![0] bcast_S4_S4x1_0
    (select (cmpi .slt (order A) (broadcastInDim S4 ![] bcast_S_S4 (constantI S_ 32 0#32)))
      (addi (order A) (broadcastInDim S4 ![] bcast_S_S4 (constantI S_ 32 4#32))) (order A)))

variable {σ} {A : IVec S4 32}

theorem order_apply (hA : ∀ i, A i = word σ (i 0)) (j : S4.Idx) : order A j = BitVec.ofNat 32 (σ.symm (j 0)).val := by
  have hj : ∀ k : Fin 4, (j.along (0 : Fin 1) k) 0 = k := fun k => Function.update_self ..
  have h : (fun k k' : Fin 4 => comparator_i32_i32_d0 (A (j.along (0 : Fin 1) k), iotaInDim S4 32 0 (j.along (0 : Fin 1) k))
        (A (j.along (0 : Fin 1) k'), iotaInDim S4 32 0 (j.along (0 : Fin 1) k')) == 1#1)
      = fun k k' => IntOp.cmpi .slt (word σ k) (word σ k') == 1#1 := by
    funext k k'
    show (IntOp.cmpi .slt (A _) (A _) == 1#1) = _
    rw [hA, hA]
    exact congrArg₂ (fun a b : Fin 4 => IntOp.cmpi .slt (word σ a) (word σ b) == 1#1) (hj k) (hj k')
  refine (congrArg (fun a : Fin 4 => BitVec.ofNat 32 a.val) (hj _)).trans ?_
  exact congrArg (fun f : Fin 4 → Fin 4 => BitVec.ofNat 32 (f (j 0)).val) ((congrArg (sortedFrom (n := 4)) h).trans (sorted_word σ))

/-- A position, wrapped where it is negative, is itself. -/
theorem wrap_small : ∀ a : Fin 4, Scalar.select (IntOp.cmpi .slt (BitVec.ofNat 32 a.val) 0#32) (IntOp.addi (BitVec.ofNat 32 a.val) 4#32) (BitVec.ofNat 32 a.val)
    = BitVec.ofNat 32 a.val := by decide +kernel

/-- Read as a signed number and clamped to the last block, it is itself again. -/
theorem clamp_small : ∀ a : Fin 4, min (BitVec.ofNat 32 a.val).toInt.toNat 3 = a.val := by decide +kernel

/-- The gather's dimension numbers: one start index, of axis 0, which the result's axis 0 picks; axes 1 and 2 whole. -/
abbrev gd : GatherDims S4x1024x1024 S4x1 S4x1024x1024 := gather_S4x1024x1024_S4x1_S4x1024x1024_12_0_n_n_0_1_110241024

/-- The entry of the start indices that result index `j` reads. -/
def entry (j : S4x1024x1024.Idx) : S4x1.Idx := gd.siIdx j ⟨0, Nat.one_pos⟩
theorem entry_zero (j : S4x1024x1024.Idx) : (entry j 0).val = (j 0).val := rfl

theorem gd_axis0 (j : S4x1024x1024.Idx) (idx : IVec S4x1 32) : (gd.operandIdx j idx 0).val = min (idx (entry j)).toInt.toNat 3 := by
  show gd.start j idx 0 + gd.batchCoord j 0 + gd.offCoord j 0 = _
  rw [GatherDims.batchCoord_eq_zero _ _ _ List.not_mem_nil,
    GatherDims.offCoord_eq_zero _ _ _ (fun h => ((GatherDims.mem_sKept _ _).mp h).1 (List.mem_singleton.mpr rfl))]
  unfold GatherDims.start
  rw [dif_pos (show (0 : Fin 3) ∈ gd.startIndexMap from List.mem_singleton.mpr rfl)]
  rfl

theorem gd_rest (j : S4x1024x1024.Idx) (idx : IVec S4x1 32) (a : Fin 3) (ha : a ≠ 0) : (gd.operandIdx j idx a).val = gd.offCoord j a := by
  show gd.start j idx a + gd.batchCoord j a + gd.offCoord j a = _
  rw [GatherDims.batchCoord_eq_zero _ _ _ List.not_mem_nil]
  unfold GatherDims.start
  rw [dif_neg (show a ∉ gd.startIndexMap from fun h => ha (List.mem_singleton.mp h))]
  omega

theorem gd_axis1 (j : S4x1024x1024.Idx) : gd.offCoord j 1 = (j 1).val := rfl
theorem gd_axis2 (j : S4x1024x1024.Idx) : gd.offCoord j 2 = (j 2).val := rfl

/-- Block `z` of the gathered array is block `σ⁻¹ z` of the array. -/
theorem gathered_apply (x : FVec F S4x1024x1024 .f32) (hA : ∀ i, A i = word σ (i 0)) (j i : S4x1024x1024.Idx)
    (h0 : (i 0).val = (σ.symm (j 0)).val) (h1 : (i 1).val = (j 1).val) (h2 : (i 2).val = (j 2).val) : gathered x A j = x i := by
  refine congrArg x (funext fun a => Fin.ext ?_)
  rcases a with ⟨a, ha⟩
  match a, ha with
  | 0, _ =>
    refine (gd_axis0 j _).trans (Eq.trans ?_ h0.symm)
    show min (Scalar.select (IntOp.cmpi .slt (order A _) 0#32) (IntOp.addi (order A _) 4#32) (order A _)).toInt.toNat 3 = _
    rw [order_apply hA]
    refine (congrArg (fun w : BitVec 32 => min w.toInt.toNat 3) (wrap_small _)).trans ((clamp_small _).trans ?_)
    exact congrArg (fun z : Fin 4 => (σ.symm z).val) (Fin.ext (entry_zero j))
  | 1, _ => exact (gd_rest j _ 1 (by decide)).trans ((gd_axis1 j).trans h1.symm)
  | 2, _ => exact (gd_rest j _ 2 (by decide)).trans ((gd_axis2 j).trans h2.symm)

/-- Device `c`'s block of an array cut in four along its first axis, by the third axis of the mesh. -/
abbrev blockOf {α : Type} (c : Fin 32) (v : S4x1024x1024.Idx → α) : KernelIdeal.S1x1024x1024.Idx → α :=
  Layout.blockN ⟨3, ![1, 1024, 1024]⟩ ⟨3, ![4, 1024, 1024]⟩ (Layout.meshBlock [2, 4, 4] ![[2], [], []] c) v

/-- Where an element of device `c`'s block is in the whole array. -/
abbrev inWhole (c : Fin 32) (i : KernelIdeal.S1x1024x1024.Idx) : S4x1024x1024.Idx :=
  (show Layout.TilesN ⟨3, ![1, 1024, 1024]⟩ ⟨3, ![4, 1024, 1024]⟩ (fun b => Layout.cutSize [2, 4, 4] ((![[2], [], []] : Fin 3 → List ℕ) b)) by decide).idx
    (Layout.meshBlock [2, 4, 4] ![[2], [], []] c) i

theorem inWhole_zero (c : Fin 32) (i : KernelIdeal.S1x1024x1024.Idx) : inWhole c i 0 = zOf c := by
  refine Fin.ext ?_
  show (c.val / 1 % 4 * 1 + 0) * 1 + (i 0).val = c.val % 4
  have : (i 0).val < 1 := (i 0).isLt
  omega
theorem inWhole_one (c : Fin 32) (i : KernelIdeal.S1x1024x1024.Idx) : (inWhole c i 1).val = (i 1).val := by
  show 0 * 1024 + (i 1).val = _; omega
theorem inWhole_two (c : Fin 32) (i : KernelIdeal.S1x1024x1024.Idx) : (inWhole c i 2).val = (i 2).val := by
  show 0 * 1024 + (i 2).val = _; omega

/-- What the kernel leaves on device `c`, where the devices hold the blocks of `x`, is `c`'s block of the gathered array. -/
theorem fin_eq (m : (ℓ : Loc KernelIdeal.nD KernelIdeal.τ KernelIdeal.sig) → Buf (Elt F) ℓ) (x : FVec F S4x1024x1024 .f32)
    (hx : ∀ c : Dev KernelIdeal.nD, m ((c : Thread KernelIdeal.nD KernelIdeal.τ).loc KernelIdeal.main_arg0) = blockOf c x)
    (hA : ∀ i, A i = word σ (i 0)) (c : Dev KernelIdeal.nD) : KernelIdeal.Route.fin σ m c = blockOf c (gathered x A) := by
  funext i
  refine (congrFun (hx (origin σ (own c (KernelIdeal.Route.qOf i)))) i).trans (Eq.symm ?_)
  show gathered x A (inWhole c i) = x (inWhole (origin σ (own c (KernelIdeal.Route.qOf i))) i)
  refine gathered_apply x hA _ _ (congrArg Fin.val ?_) ?_ ?_
  · rw [inWhole_zero, inWhole_zero, zOf_origin, zOf_own]
  · rw [inWhole_one, inWhole_one]
  · rw [inWhole_two, inWhole_two]

/-- The reference, from any memory, leaves its arguments and its counters as they were. -/
theorem ref_frame (m : (ℓ : Loc nD τ sig) → Buf (Elt F) ℓ) (ρ : Dev nD → PrngReg) :
    θ_run defs (onTc (τ := τ) (main (F := F))) ⟨m, fun _ => 0, ρ⟩ (fun r =>
      (∀ c : Dev nD, r.2.mem ((c : Thread nD τ).loc main_arg0) = m ((c : Thread nD τ).loc main_arg0)
        ∧ r.2.mem ((c : Thread nD τ).loc main_arg1) = m ((c : Thread nD τ).loc main_arg1)) ∧ r.2.sem = fun _ => 0) :=
  (θ_run defs _ _).mono (fun r h => ⟨fun c => (h c).2, sem_eq_zero_of_no_sems (by decide) r.2⟩) (Value.run m ρ)

/-- Both programs at a literal table: the reference's result is the gathered array, and each device's the block of it. -/
theorem agree {lit : Fin 4 → BitVec 32} (hl : Valid lit)
    (m : (ℓ : Loc KernelIdeal.nD KernelIdeal.τ KernelIdeal.sig) → Buf (Elt F) ℓ) (g : Dev KernelIdeal.nD → PrngReg)
    (m' : (ℓ : Loc nD τ sig) → Buf (Elt F) ℓ) (g' : Dev nD → PrngReg)
    (h : ∀ c : Dev KernelIdeal.nD, cmpi .eq (m ((c : Thread KernelIdeal.nD KernelIdeal.τ).loc KernelIdeal.main_arg1) : IVec S4 32) (fun i => lit (S4.rowMajor i)) = fun _ => 1#1)
    (hm : ∀ c : Dev KernelIdeal.nD,
      m ((c : Thread KernelIdeal.nD KernelIdeal.τ).loc KernelIdeal.main_arg0) = blockOf c (m' (((0 : Dev nD) : Thread nD τ).loc main_arg0))
      ∧ m ((c : Thread KernelIdeal.nD KernelIdeal.τ).loc KernelIdeal.main_arg1) = m' (((0 : Dev nD) : Thread nD τ).loc main_arg1)) :
    ∃ v : Buf (Elt F) (((0 : Dev nD) : Thread nD τ).loc main_v7),
      θ_run KernelIdeal.defs (onTc (τ := KernelIdeal.τ) (KernelIdeal.main (F := F))) ⟨m, fun _ => 0, g⟩ (fun r => ∀ c : Dev KernelIdeal.nD,
        r.2.mem ((c : Thread KernelIdeal.nD KernelIdeal.τ).loc KernelIdeal.main_v1) = blockOf c v
        ∧ r.2.mem ((c : Thread KernelIdeal.nD KernelIdeal.τ).loc KernelIdeal.main_arg0) = m ((c : Thread KernelIdeal.nD KernelIdeal.τ).loc KernelIdeal.main_arg0)
        ∧ r.2.mem ((c : Thread KernelIdeal.nD KernelIdeal.τ).loc KernelIdeal.main_arg1) = m ((c : Thread KernelIdeal.nD KernelIdeal.τ).loc KernelIdeal.main_arg1))
      ∧ θ_run defs (onTc (τ := τ) (main (F := F))) ⟨m', fun _ => 0, g'⟩ (fun r =>
        r.2.mem (((0 : Dev nD) : Thread nD τ).loc main_v7) = v
        ∧ r.2.mem (((0 : Dev nD) : Thread nD τ).loc main_arg0) = m' (((0 : Dev nD) : Thread nD τ).loc main_arg0)
        ∧ r.2.mem (((0 : Dev nD) : Thread nD τ).loc main_arg1) = m' (((0 : Dev nD) : Thread nD τ).loc main_arg1)) := by
  have hp : KernelIdeal.Route.PreOK (permOf hl) m := fun c => table_of hl _ (h c)
  refine ⟨gathered (m' (((0 : Dev nD) : Thread nD τ).loc main_arg0)) (m' (((0 : Dev nD) : Thread nD τ).loc main_arg1)), ?_, ?_⟩
  · refine (θ_run KernelIdeal.defs _ _).mono (fun r hr c => ⟨(hr.1 c).2.2.trans ?_, (hr.1 c).1, (hr.1 c).2.1⟩)
      (KernelIdeal.Route.run_main (permOf hl) m g hp)
    exact fin_eq m _ (fun d => (hm d).1) (fun i => (congrFun (hm 0).2 i).symm.trans (hp 0 i)) c
  · exact (θ_run defs _ _).mono (fun r hr => hr 0) (Value.run m' g')

end Cert.Gathered

end
-- ==== Proof.lean ====
/-
# The claim, assembled

Every claim about the kernel is stated once for each of the twenty-four tables that are permutations of the four blocks.
`valid_abcd` decides that the literal table of a precondition is one; the frames (`Route.frame`) and the comparison with
the reference (`Gathered.agree`) are proved once, for any such table, and read here at each.
-/
module

public import proofs.«01_k».proof.Defs
public import proofs.«01_k».proof.Proof.Word.Frame
public import proofs.«01_k».proof.Proof.Ideal.Frame
public import proofs.«01_k».proof.Proof.Value
public import proofs.«01_k».proof.Proof.Gen.ReferenceIdeal.Run

@[expose] public section

noncomputable section

namespace Cert.Proof

open Idealize.ShloMosaic Idealize.SL.Sem Cert.Mesh

theorem valid_0123 : Valid Pre_pi_is_0123_Kernel.lit0 := by decide
theorem valid_0132 : Valid Pre_pi_is_0132_Kernel.lit0 := by decide
theorem valid_0213 : Valid Pre_pi_is_0213_Kernel.lit0 := by decide
theorem valid_0231 : Valid Pre_pi_is_0231_Kernel.lit0 := by decide
theorem valid_0312 : Valid Pre_pi_is_0312_Kernel.lit0 := by decide
theorem valid_0321 : Valid Pre_pi_is_0321_Kernel.lit0 := by decide
theorem valid_1023 : Valid Pre_pi_is_1023_Kernel.lit0 := by decide
theorem valid_1032 : Valid Pre_pi_is_1032_Kernel.lit0 := by decide
theorem valid_1203 : Valid Pre_pi_is_1203_Kernel.lit0 := by decide
theorem valid_1230 : Valid Pre_pi_is_1230_Kernel.lit0 := by decide
theorem valid_1302 : Valid Pre_pi_is_1302_Kernel.lit0 := by decide
theorem valid_1320 : Valid Pre_pi_is_1320_Kernel.lit0 := by decide
theorem valid_2013 : Valid Pre_pi_is_2013_Kernel.lit0 := by decide
theorem valid_2031 : Valid Pre_pi_is_2031_Kernel.lit0 := by decide
theorem valid_2103 : Valid Pre_pi_is_2103_Kernel.lit0 := by decide
theorem valid_2130 : Valid Pre_pi_is_2130_Kernel.lit0 := by decide
theorem valid_2301 : Valid Pre_pi_is_2301_Kernel.lit0 := by decide
theorem valid_2310 : Valid Pre_pi_is_2310_Kernel.lit0 := by decide
theorem valid_3012 : Valid Pre_pi_is_3012_Kernel.lit0 := by decide
theorem valid_3021 : Valid Pre_pi_is_3021_Kernel.lit0 := by decide
theorem valid_3102 : Valid Pre_pi_is_3102_Kernel.lit0 := by decide
theorem valid_3120 : Valid Pre_pi_is_3120_Kernel.lit0 := by decide
theorem valid_3201 : Valid Pre_pi_is_3201_Kernel.lit0 := by decide
theorem valid_3210 : Valid Pre_pi_is_3210_Kernel.lit0 := by decide

theorem claim : Cert.Claim := ⟨Kernel.Gen.facts, KernelIdeal.Gen.facts, ReferenceIdeal.Gen.facts,
  -- the facts of the preconditions: they state none
  ⟨⟩, ⟨⟩, ⟨⟩, ⟨⟩, ⟨⟩, ⟨⟩, ⟨⟩, ⟨⟩, ⟨⟩, ⟨⟩, ⟨⟩, ⟨⟩, ⟨⟩, ⟨⟩, ⟨⟩, ⟨⟩, ⟨⟩, ⟨⟩, ⟨⟩, ⟨⟩, ⟨⟩, ⟨⟩, ⟨⟩, ⟨⟩, ⟨⟩, ⟨⟩, ⟨⟩, ⟨⟩, ⟨⟩, ⟨⟩, ⟨⟩, ⟨⟩, ⟨⟩, ⟨⟩, ⟨⟩, ⟨⟩, ⟨⟩,
  ⟨⟩, ⟨⟩, ⟨⟩, ⟨⟩, ⟨⟩, ⟨⟩, ⟨⟩, ⟨⟩, ⟨⟩, ⟨⟩, ⟨⟩,
  -- the kernel as printed, at each table
  Kernel.Route.frame valid_0123, Kernel.Route.frame valid_0132, Kernel.Route.frame valid_0213, Kernel.Route.frame valid_0231,
  Kernel.Route.frame valid_0312, Kernel.Route.frame valid_0321, Kernel.Route.frame valid_1023, Kernel.Route.frame valid_1032,
  Kernel.Route.frame valid_1203, Kernel.Route.frame valid_1230, Kernel.Route.frame valid_1302, Kernel.Route.frame valid_1320,
  Kernel.Route.frame valid_2013, Kernel.Route.frame valid_2031, Kernel.Route.frame valid_2103, Kernel.Route.frame valid_2130,
  Kernel.Route.frame valid_2301, Kernel.Route.frame valid_2310, Kernel.Route.frame valid_3012, Kernel.Route.frame valid_3021,
  Kernel.Route.frame valid_3102, Kernel.Route.frame valid_3120, Kernel.Route.frame valid_3201, Kernel.Route.frame valid_3210,
  -- the kernel at the ideal instance
  KernelIdeal.Route.frame valid_0123, KernelIdeal.Route.frame valid_0132, KernelIdeal.Route.frame valid_0213, KernelIdeal.Route.frame valid_0231,
  KernelIdeal.Route.frame valid_0312, KernelIdeal.Route.frame valid_0321, KernelIdeal.Route.frame valid_1023, KernelIdeal.Route.frame valid_1032,
  KernelIdeal.Route.frame valid_1203, KernelIdeal.Route.frame valid_1230, KernelIdeal.Route.frame valid_1302, KernelIdeal.Route.frame valid_1320,
  KernelIdeal.Route.frame valid_2013, KernelIdeal.Route.frame valid_2031, KernelIdeal.Route.frame valid_2103, KernelIdeal.Route.frame valid_2130,
  KernelIdeal.Route.frame valid_2301, KernelIdeal.Route.frame valid_2310, KernelIdeal.Route.frame valid_3012, KernelIdeal.Route.frame valid_3021,
  KernelIdeal.Route.frame valid_3102, KernelIdeal.Route.frame valid_3120, KernelIdeal.Route.frame valid_3201, KernelIdeal.Route.frame valid_3210,
  -- the reference, without a precondition and at each table
  fun m g _ => Gathered.ref_frame m g, fun m g _ => Gathered.ref_frame m g, fun m g _ => Gathered.ref_frame m g, fun m g _ => Gathered.ref_frame m g,
  fun m g _ => Gathered.ref_frame m g, fun m g _ => Gathered.ref_frame m g, fun m g _ => Gathered.ref_frame m g, fun m g _ => Gathered.ref_frame m g,
  fun m g _ => Gathered.ref_frame m g, fun m g _ => Gathered.ref_frame m g, fun m g _ => Gathered.ref_frame m g, fun m g _ => Gathered.ref_frame m g,
  fun m g _ => Gathered.ref_frame m g, fun m g _ => Gathered.ref_frame m g, fun m g _ => Gathered.ref_frame m g, fun m g _ => Gathered.ref_frame m g,
  fun m g _ => Gathered.ref_frame m g, fun m g _ => Gathered.ref_frame m g, fun m g _ => Gathered.ref_frame m g, fun m g _ => Gathered.ref_frame m g,
  fun m g _ => Gathered.ref_frame m g, fun m g _ => Gathered.ref_frame m g, fun m g _ => Gathered.ref_frame m g, fun m g _ => Gathered.ref_frame m g,
  fun m g _ => Gathered.ref_frame m g,
  trivial,
  -- the two compared
  Gathered.agree valid_0123, Gathered.agree valid_0132, Gathered.agree valid_0213, Gathered.agree valid_0231, Gathered.agree valid_0312,
  Gathered.agree valid_0321, Gathered.agree valid_1023, Gathered.agree valid_1032, Gathered.agree valid_1203, Gathered.agree valid_1230,
  Gathered.agree valid_1302, Gathered.agree valid_1320, Gathered.agree valid_2013, Gathered.agree valid_2031, Gathered.agree valid_2103,
  Gathered.agree valid_2130, Gathered.agree valid_2301, Gathered.agree valid_2310, Gathered.agree valid_3012, Gathered.agree valid_3021,
  Gathered.agree valid_3102, Gathered.agree valid_3120, Gathered.agree valid_3201, Gathered.agree valid_3210⟩

end Cert.Proof

end
